-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_key_weights [hPre_finite_key_weights : Cert.Pre_finite_key_weights.Facts] (m : (ℓ : Loc Cert.InIdeal.nD Cert.InIdeal.τ Cert.InIdeal.sig) → Buf (Elt Ideal) ℓ) : Prop :=
  ∀ c : Dev Cert.InIdeal.nD,
    (Cert.Pre_finite_key_weights.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_key_weights [hPre_finite_key_weights : Cert.Pre_finite_key_weights.Facts] (m : (ℓ : Loc Cert.InRefIdeal.nD Cert.InRefIdeal.τ Cert.InRefIdeal.sig) → Buf (Elt Ideal) ℓ) : Prop :=
  ∀ c : Dev Cert.InRefIdeal.nD,
    (Cert.Pre_finite_key_weights.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12)
      ∧ r.2.mem ((c.tc : Thread Cert.Out.nD Cert.Out.τ).loc Cert.Out.main_arg13) = m ((c.tc : Thread Cert.Out.nD Cert.Out.τ).loc Cert.Out.main_arg13)
      ∧ r.2.mem ((c.tc : Thread Cert.Out.nD Cert.Out.τ).loc Cert.Out.main_arg14) = m ((c.tc : Thread Cert.Out.nD Cert.Out.τ).loc Cert.Out.main_arg14)
      ∧ r.2.mem ((c.tc : Thread Cert.Out.nD Cert.Out.τ).loc Cert.Out.main_arg15) = m ((c.tc : Thread Cert.Out.nD Cert.Out.τ).loc Cert.Out.main_arg15))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
      ∧ r.2.mem ((c.tc : Thread Cert.OutIdeal.nD Cert.OutIdeal.τ).loc Cert.OutIdeal.main_arg14) = m ((c.tc : Thread Cert.OutIdeal.nD Cert.OutIdeal.τ).loc Cert.OutIdeal.main_arg14)
      ∧ r.2.mem ((c.tc : Thread Cert.OutIdeal.nD Cert.OutIdeal.τ).loc Cert.OutIdeal.main_arg15) = m ((c.tc : Thread Cert.OutIdeal.nD Cert.OutIdeal.τ).loc Cert.OutIdeal.main_arg15))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12)
      ∧ r.2.mem ((c.tc : Thread Cert.OutRefIdeal.nD Cert.OutRefIdeal.τ).loc Cert.OutRefIdeal.main_arg13) = m ((c.tc : Thread Cert.OutRefIdeal.nD Cert.OutRefIdeal.τ).loc Cert.OutRefIdeal.main_arg13)
      ∧ r.2.mem ((c.tc : Thread Cert.OutRefIdeal.nD Cert.OutRefIdeal.τ).loc Cert.OutRefIdeal.main_arg14) = m ((c.tc : Thread Cert.OutRefIdeal.nD Cert.OutRefIdeal.τ).loc Cert.OutRefIdeal.main_arg14)
      ∧ r.2.mem ((c.tc : Thread Cert.OutRefIdeal.nD Cert.OutRefIdeal.τ).loc Cert.OutRefIdeal.main_arg15) = m ((c.tc : Thread Cert.OutRefIdeal.nD Cert.OutRefIdeal.τ).loc Cert.OutRefIdeal.main_arg15))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10)
      ∧ r.2.mem ((c.tc : Thread Cert.In.nD Cert.In.τ).loc Cert.In.main_arg11) = m ((c.tc : Thread Cert.In.nD Cert.In.τ).loc Cert.In.main_arg11))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11))
      ∧ r.2.sem = fun _ => 0)

def quiescent_InIdeal_pre_finite_key_weights [hInIdeal : Cert.InIdeal.Facts] [hPre_finite_key_weights : Cert.Pre_finite_key_weights.Facts] : Prop :=
  ∀ (m : (ℓ : Loc Cert.InIdeal.nD Cert.InIdeal.τ Cert.InIdeal.sig) → Buf (Elt Ideal) ℓ) (g : Dev Cert.InIdeal.nD → PrngReg), Pre_InIdeal_finite_key_weights m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11))
      ∧ r.2.sem = fun _ => 0)

def quiescent_InRefIdeal_pre_finite_key_weights [hInRefIdeal : Cert.InRefIdeal.Facts] [hPre_finite_key_weights : Cert.Pre_finite_key_weights.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_key_weights m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)
      ∧ m' ((c.tc : Thread Cert.OutRefIdeal.nD Cert.OutRefIdeal.τ).loc Cert.OutRefIdeal.main_arg13) = m ((c.tc : Thread Cert.OutIdeal.nD Cert.OutIdeal.τ).loc Cert.OutIdeal.main_arg13)
      ∧ m' ((c.tc : Thread Cert.OutRefIdeal.nD Cert.OutRefIdeal.τ).loc Cert.OutRefIdeal.main_arg14) = m ((c.tc : Thread Cert.OutIdeal.nD Cert.OutIdeal.τ).loc Cert.OutIdeal.main_arg14)
      ∧ m' ((c.tc : Thread Cert.OutRefIdeal.nD Cert.OutRefIdeal.τ).loc Cert.OutRefIdeal.main_arg15) = m ((c.tc : Thread Cert.OutIdeal.nD Cert.OutIdeal.τ).loc Cert.OutIdeal.main_arg15)) →
    ∃ (v0 : (c : Dev Cert.OutIdeal.nD) → Buf (Elt Ideal) ((c.tc : Thread Cert.OutIdeal.nD Cert.OutIdeal.τ).loc Cert.OutIdeal.main_v24)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v24) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
          ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
          ∧ r.2.mem ((c.tc : Thread Cert.OutIdeal.nD Cert.OutIdeal.τ).loc Cert.OutIdeal.main_arg14) = m ((c.tc : Thread Cert.OutIdeal.nD Cert.OutIdeal.τ).loc Cert.OutIdeal.main_arg14)
          ∧ r.2.mem ((c.tc : Thread Cert.OutIdeal.nD Cert.OutIdeal.τ).loc Cert.OutIdeal.main_arg15) = m ((c.tc : Thread Cert.OutIdeal.nD Cert.OutIdeal.τ).loc Cert.OutIdeal.main_arg15))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v121) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12)
          ∧ r.2.mem ((c.tc : Thread Cert.OutRefIdeal.nD Cert.OutRefIdeal.τ).loc Cert.OutRefIdeal.main_arg13) = m' ((c.tc : Thread Cert.OutRefIdeal.nD Cert.OutRefIdeal.τ).loc Cert.OutRefIdeal.main_arg13)
          ∧ r.2.mem ((c.tc : Thread Cert.OutRefIdeal.nD Cert.OutRefIdeal.τ).loc Cert.OutRefIdeal.main_arg14) = m' ((c.tc : Thread Cert.OutRefIdeal.nD Cert.OutRefIdeal.τ).loc Cert.OutRefIdeal.main_arg14)
          ∧ r.2.mem ((c.tc : Thread Cert.OutRefIdeal.nD Cert.OutRefIdeal.τ).loc Cert.OutRefIdeal.main_arg15) = m' ((c.tc : Thread Cert.OutRefIdeal.nD Cert.OutRefIdeal.τ).loc Cert.OutRefIdeal.main_arg15))

def preserves_In_InIdeal : Prop :=
  IdealRules.named_const.Statement Cert.InIdeal.κ "scale" .f32 0x3E16C740#32 (((Real.sqrt 96)⁻¹ * (Real.log 2)⁻¹ : ℝ) : EReal)

def algebraic_InIdeal_InRefIdeal_pre_finite_key_weights [hInIdeal : Cert.InIdeal.Facts] [hInRefIdeal : Cert.InRefIdeal.Facts] [hPre_finite_key_weights : Cert.Pre_finite_key_weights.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_key_weights m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)
      ∧ m' ((c.tc : Thread Cert.InRefIdeal.nD Cert.InRefIdeal.τ).loc Cert.InRefIdeal.main_arg11) = m ((c.tc : Thread Cert.InIdeal.nD Cert.InIdeal.τ).loc Cert.InIdeal.main_arg11)) →
    ∃ (v0 : (c : Dev Cert.InIdeal.nD) → Buf (Elt Ideal) ((c.tc : Thread Cert.InIdeal.nD Cert.InIdeal.τ).loc Cert.InIdeal.main_v52_0)) (v1 : (c : Dev Cert.InIdeal.nD) → Buf (Elt Ideal) ((c.tc : Thread Cert.InIdeal.nD Cert.InIdeal.τ).loc Cert.InIdeal.main_v52_1)) (v2 : (c : Dev Cert.InIdeal.nD) → Buf (Elt Ideal) ((c.tc : Thread Cert.InIdeal.nD Cert.InIdeal.τ).loc Cert.InIdeal.main_v52_2)) (v3 : (c : Dev Cert.InIdeal.nD) → Buf (Elt Ideal) ((c.tc : Thread Cert.InIdeal.nD Cert.InIdeal.τ).loc Cert.InIdeal.main_v52_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v52_0) = v0 c
          ∧ r.2.mem ((c.tc : Thread Cert.InIdeal.nD Cert.InIdeal.τ).loc Cert.InIdeal.main_v52_1) = v1 c
          ∧ r.2.mem ((c.tc : Thread Cert.InIdeal.nD Cert.InIdeal.τ).loc Cert.InIdeal.main_v52_2) = v2 c
          ∧ r.2.mem ((c.tc : Thread Cert.InIdeal.nD Cert.InIdeal.τ).loc Cert.InIdeal.main_v52_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10)
          ∧ r.2.mem ((c.tc : Thread Cert.InIdeal.nD Cert.InIdeal.τ).loc Cert.InIdeal.main_arg11) = m ((c.tc : Thread Cert.InIdeal.nD Cert.InIdeal.τ).loc Cert.InIdeal.main_arg11))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v373) = v0 c
          ∧ r.2.mem ((c.tc : Thread Cert.InRefIdeal.nD Cert.InRefIdeal.τ).loc Cert.InRefIdeal.main_v374) = v1 c
          ∧ r.2.mem ((c.tc : Thread Cert.InRefIdeal.nD Cert.InRefIdeal.τ).loc Cert.InRefIdeal.main_v375) = v2 c
          ∧ r.2.mem ((c.tc : Thread Cert.InRefIdeal.nD Cert.InRefIdeal.τ).loc Cert.InRefIdeal.main_v376) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11))

def Claim : Prop :=
  ∃ (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPre_finite_scores : Cert.Pre_finite_scores.Facts) (hPre_finite_key_weights : Cert.Pre_finite_key_weights.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InIdeal_pre_finite_key_weights (hInIdeal := hInIdeal) (hPre_finite_key_weights := hPre_finite_key_weights)
    ∧ quiescent_InRefIdeal (hInRefIdeal := hInRefIdeal)
    ∧ quiescent_InRefIdeal_pre_finite_key_weights (hInRefIdeal := hInRefIdeal) (hPre_finite_key_weights := hPre_finite_key_weights)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal_pre_finite_key_weights (hInIdeal := hInIdeal) (hInRefIdeal := hInRefIdeal) (hPre_finite_key_weights := hPre_finite_key_weights)
-- ==== Pre_finite_key_weights.lean ====
abbrev S8x4096x1024 : Shape := ⟨3, ![8, 4096, 1024]⟩
abbrev S8x4096 : Shape := ⟨2, ![8, 4096]⟩
abbrev S1x1024 : Shape := ⟨2, ![1, 1024]⟩
abbrev S1x1024x1696 : Shape := ⟨3, ![1, 1024, 1696]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x31x512 : Shape := ⟨3, ![1, 31, 512]⟩
abbrev S1x512 : Shape := ⟨2, ![1, 512]⟩
abbrev S1024x1696 : Shape := ⟨2, ![1024, 1696]⟩
abbrev S1024x32 : Shape := ⟨2, ![1024, 32]⟩
abbrev S1024 : Shape := ⟨1, ![1024]⟩
abbrev S1024x1 : Shape := ⟨2, ![1024, 1]⟩
abbrev S_ : Shape := ⟨0, ![]⟩

class Facts : Prop where
  shapeCasts_S1x1024x1696_S1024x1696 : S1x1024x1696.ShapeCasts S1024x1696
  slices_S1024x1696_S1024x32_0_640 : S1024x1696.Slices ![0, 640] S1024x32
  shapeCasts_S1x1024_S1024 : S1x1024.ShapeCasts S1024
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S_S1024x32 : S_.BroadcastsInDim S1024x32 (![] : Fin 0 → Fin S1024x32.rank)

variable [Facts]

def fn {F : FTy → Type} [FloatOps F] (main_arg0 : FVec F S8x4096x1024 .f32) (main_arg1 : IVec S8x4096 32) (main_arg2 : FVec F S1x1024 .f32) (main_arg3 : FVec F S1x1024x1696 .f32) (main_arg4 : FVec F S1x384 .f32) (main_arg5 : FVec F S1x384x768 .f32) (main_arg6 : FVec F S1x256 .f32) (main_arg7 : FVec F S1x256x1024 .f32) (main_arg8 : FVec F S1x31x512 .f32) (main_arg9 : FVec F S1x512 .f32) (main_arg10 : FVec F S1x512 .f32) (main_arg11 : FVec F S1x512 .f32) : IVec S1024x32 1 :=
  let main_v0 : FVec F S1024x1696 .f32 := shapeCast S1024x1696 main_arg3 shapeCasts_S1x1024x1696_S1024x1696
  let main_v1 : FVec F S1024x32 .f32 := (extractStridedSlice S1024x32 ![0, 640] · slices_S1024x1696_S1024x32_0_640) main_v0
  let main_v2 : FVec F S1024 .f32 := shapeCast S1024 main_arg2 shapeCasts_S1x1024_S1024
  let main_v3 : FVec F S1024x1 .f32 := broadcastInDim S1024x1 ![0] bcast_S1024_S1024x1_0 main_v2
  let main_v4 : FVec F S1024x32 .f32 := broadcastInDim S1024x32 ![0, 1] bcast_S1024x1_S1024x32_0_1 main_v3
  let main_v5 : FVec F S1024x32 .f32 := Host.absf main_v4
  let main_cst : FVec F S_ .f32 := constant S_ .f32 0x7F800000#32
  let main_v6 : FVec F S1024x32 .f32 := broadcastInDim S1024x32 ![] bcast_S_S1024x32 main_cst
  let main_v7 : IVec S1024x32 1 := cmpf .olt main_v5 main_v6
  let main_v8 : FVec F S1024x32 .f32 := Host.absf main_v1
  let main_cst_0 : FVec F S_ .f32 := constant S_ .f32 0x7F800000#32
  let main_v9 : FVec F S1024x32 .f32 := broadcastInDim S1024x32 ![] bcast_S_S1024x32 main_cst_0
  let main_v10 : IVec S1024x32 1 := cmpf .olt main_v8 main_v9
  let main_v11 : IVec S1024x32 1 := andi main_v7 main_v10
  main_v11
-- ==== Pre_finite_scores.lean ====
abbrev S8x1024x4096 : Shape := ⟨3, ![8, 1024, 4096]⟩
abbrev S8x4096x1024 : Shape := ⟨3, ![8, 4096, 1024]⟩
abbrev S8x8x512x512 : Shape := ⟨4, ![8, 8, 512, 512]⟩
abbrev S_ : Shape := ⟨0, ![]⟩

class Facts : Prop where
  bcast_S_S8x1024x4096 : S_.BroadcastsInDim S8x1024x4096 (![] : Fin 0 → Fin S8x1024x4096.rank)
  transposes_S8x4096x1024_S8x1024x4096_0_2_1 : S8x4096x1024.Transposes [0, 2, 1] S8x1024x4096

variable [Facts]

def fn {F : FTy → Type} [FloatOps F] (main_arg0 : FVec F S8x1024x4096 .bf16) (main_arg1 : FVec F S8x4096x1024 .bf16) (main_arg2 : FVec F S8x8x512x512 .bf16) : IVec S8x1024x4096 1 :=
  let main_v0 : FVec F S8x1024x4096 .bf16 := Host.absf main_arg0
  let main_cst : FVec F S_ .bf16 := constant S_ .bf16 0x7F80#16
  let main_v1 : FVec F S8x1024x4096 .bf16 := broadcastInDim S8x1024x4096 ![] bcast_S_S8x1024x4096 main_cst
  let main_v2 : IVec S8x1024x4096 1 := cmpf .olt main_v0 main_v1
  let main_v3 : FVec F S8x1024x4096 .bf16 := (transpose S8x1024x4096 [0, 2, 1] · transposes_S8x4096x1024_S8x1024x4096_0_2_1) main_arg1
  let main_v4 : FVec F S8x1024x4096 .bf16 := Host.absf main_v3
  let main_cst_0 : FVec F S_ .bf16 := constant S_ .bf16 0x7F80#16
  let main_v5 : FVec F S8x1024x4096 .bf16 := broadcastInDim S8x1024x4096 ![] bcast_S_S8x1024x4096 main_cst_0
  let main_v6 : IVec S8x1024x4096 1 := cmpf .olt main_v4 main_v5
  let main_v7 : IVec S8x1024x4096 1 := andi main_v2 main_v6
  main_v7
-- ==== Attn.lean ====
abbrev S8x1024x4096 : Shape := ⟨3, ![8, 1024, 4096]⟩
abbrev S8x4096x1024 : Shape := ⟨3, ![8, 4096, 1024]⟩
abbrev S8x8x512x512 : Shape := ⟨4, ![8, 8, 512, 512]⟩
abbrev S8x4096x512 : Shape := ⟨3, ![8, 4096, 512]⟩
abbrev S1x256x512 : Shape := ⟨3, ![1, 256, 512]⟩
abbrev S1x4096x256 : Shape := ⟨3, ![1, 4096, 256]⟩
abbrev S1x8x128x512 : Shape := ⟨4, ![1, 8, 128, 512]⟩
abbrev S1x512x128 : Shape := ⟨3, ![1, 512, 128]⟩
abbrev S512x512 : Shape := ⟨2, ![512, 512]⟩
abbrev S1x128x512 : Shape := ⟨3, ![1, 128, 512]⟩
abbrev S128x512 : Shape := ⟨2, ![128, 512]⟩
abbrev S1x512 : Shape := ⟨2, ![1, 512]⟩
abbrev S64x512 : Shape := ⟨2, ![64, 512]⟩
abbrev S512x128 : Shape := ⟨2, ![512, 128]⟩
abbrev S512 : Shape := ⟨1, ![512]⟩
abbrev S1x1x64x512 : Shape := ⟨4, ![1, 1, 64, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x8x512x512, .bf16⟩
  | .hbm, ⟨3, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S1x512x128, .bf16⟩
  | .local _ .vmem, ⟨7, _⟩ => ⟨S1x512x128, .bf16⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  ⟨c0_i32, v11, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c512_i32_40 : BitVec 32 := 512#32
  let v98 : BitVec 32 := Scalar.muli arg7 c512_i32_40
  v98
def k0_off1 (i : grid0.Coords) (k0_t1 : Fin (k0_t1_loop i).trips) : Fin 3 → Nat :=
  let c0_41 : Index := 0#32
  let c0_i32 : BitVec 32 := 0#32
  let c1_i32_4 : BitVec 32 := 1#32
  let arg7 : BitVec 32 := Scf.iv c0_i32 c1_i32_4 k0_t1
  let c512_i32_40 : BitVec 32 := 512#32
  let v98 : BitVec 32 := Scalar.muli arg7 c512_i32_40
  let v99 : BitVec 32 := v98
  let v100 : Index := Scalar.indexCast v99
  let c0_42 : Index := 0#32
  ![0, v100.toNat, 0]
def k0_off2 (i : grid0.Coords) (k0_t1 : Fin (k0_t1_loop i).trips) : Fin 4 → Nat :=
  let c0_46 : Index := 0#32
  let c0_i32 : BitVec 32 := 0#32
  let c1_i32_4 : BitVec 32 := 1#32
  let arg7 : BitVec 32 := Scf.iv c0_i32 c1_i32_4 k0_t1
  let v116 : Index := Scalar.indexCast arg7
  let c0_47 : Index := 0#32
  let c0_48 : Index := 0#32
  ![0, v116.toNat, 0, 0]
@[reducible] def k0_t2_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_5 : BitVec 32 := 1#32
  ⟨v11, v8, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c512_i32_40 : BitVec 32 := 512#32
  let v98 : BitVec 32 := Scalar.muli arg7 c512_i32_40
  v98
def k0_off3 (i : grid0.Coords) (k0_t2 : Fin (k0_t2_loop i).trips) : Fin 3 → Nat :=
  let c0_41 : Index := 0#32
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c512_i32_40 : BitVec 32 := 512#32
  let v98 : BitVec 32 := Scalar.muli arg7 c512_i32_40
  let v99 : BitVec 32 := v98
  let v100 : Index := Scalar.indexCast v99
  let c0_42 : Index := 0#32
  ![0, v100.toNat, 0]
def k0_off4 (i : grid0.Coords) (k0_t2 : Fin (k0_t2_loop i).trips) : Fin 4 → Nat :=
  let c0_46 : Index := 0#32
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let v116 : Index := Scalar.indexCast arg7
  let c0_47 : Index := 0#32
  let c0_48 : Index := 0#32
  ![0, v116.toNat, 0, 0]
def k0_mult3 (i : grid0.Coords) : BitVec 32 :=
  let arg2 : BitVec 32 := BitVec.ofNat 32 (i 2).val
  let c512_i32 : BitVec 32 := 512#32
  let v14 : BitVec 32 := Scalar.muli arg2 c512_i32
  v14
def k0_off5 (i : grid0.Coords) : Fin 3 → Nat :=
  let c0_6 : Index := 0#32
  let arg2 : BitVec 32 := BitVec.ofNat 32 (i 2).val
  let c512_i32 : BitVec 32 := 512#32
  let v14 : BitVec 32 := Scalar.muli arg2 c512_i32
  let v15 : BitVec 32 := v14
  let v16 : Index := Scalar.indexCast v15
  let c0_7 : Index := 0#32
  ![0, v16.toNat, 0]
def k0_off6 (i : grid0.Coords) : Fin 4 → Nat :=
  let c0_12 : Index := 0#32
  let arg2 : BitVec 32 := BitVec.ofNat 32 (i 2).val
  let v35 : Index := Scalar.indexCast arg2
  let c0_13 : Index := 0#32
  let c0_14 : Index := 0#32
  ![0, v35.toNat, 0, 0]
@[reducible] def k0_t3_loop (i : grid0.Coords) : Scf.Loop 32 :=
  let c0_i32_22 : BitVec 32 := 0#32
  let arg2 : BitVec 32 := BitVec.ofNat 32 (i 2).val
  let v52 : BitVec 32 := Scalar.subi arg2 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_24 : BitVec 32 := 1#32
  ⟨c0_i32_22, v56, c1_i32_24⟩
def k0_mult4 (i : grid0.Coords) (k0_t3 : Fin (k0_t3_loop i).trips) : BitVec 32 :=
  let c0_i32_22 : BitVec 32 := 0#32
  let c1_i32_24 : BitVec 32 := 1#32
  let arg7 : BitVec 32 := Scf.iv c0_i32_22 c1_i32_24 k0_t3
  let c512_i32_40 : BitVec 32 := 512#32
  let v98 : BitVec 32 := Scalar.muli arg7 c512_i32_40
  v98
def k0_off7 (i : grid0.Coords) (k0_t3 : Fin (k0_t3_loop i).trips) : Fin 3 → Nat :=
  let c0_41 : Index := 0#32
  let c0_i32_22 : BitVec 32 := 0#32
  let c1_i32_24 : BitVec 32 := 1#32
  let arg7 : BitVec 32 := Scf.iv c0_i32_22 c1_i32_24 k0_t3
  let c512_i32_40 : BitVec 32 := 512#32
  let v98 : BitVec 32 := Scalar.muli arg7 c512_i32_40
  let v99 : BitVec 32 := v98
  let v100 : Index := Scalar.indexCast v99
  let c128_42 : Index := 128#32
  ![0, v100.toNat, 128]
def k0_off8 (i : grid0.Coords) (k0_t3 : Fin (k0_t3_loop i).trips) : Fin 4 → Nat :=
  let c0_46 : Index := 0#32
  let c0_i32_22 : BitVec 32 := 0#32
  let c1_i32_24 : BitVec 32 := 1#32
  let arg7 : BitVec 32 := Scf.iv c0_i32_22 c1_i32_24 k0_t3
  let v116 : Index := Scalar.indexCast arg7
  let c64_47 : Index := 64#32
  let c0_48 : Index := 0#32
  ![0, v116.toNat, 64, 0]
@[reducible] def k0_t4_loop (i : grid0.Coords) : Scf.Loop 32 :=
  let c0_i32_22 : BitVec 32 := 0#32
  let arg2 : BitVec 32 := BitVec.ofNat 32 (i 2).val
  let v52 : BitVec 32 := Scalar.subi arg2 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let v53 : BitVec 32 := Scalar.addi c0_i32_22 v52
  let c1_i32_25 : BitVec 32 := 1#32
  ⟨v56, v53, c1_i32_25⟩
def k0_mult5 (i : grid0.Coords) (k0_t4 : Fin (k0_t4_loop i).trips) : BitVec 32 :=
  let c0_i32_22 : BitVec 32 := 0#32
  let arg2 : BitVec 32 := BitVec.ofNat 32 (i 2).val
  let v52 : BitVec 32 := Scalar.subi arg2 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg7 : BitVec 32 := Scf.iv v56 c1_i32_25 k0_t4
  let c512_i32_40 : BitVec 32 := 512#32
  let v98 : BitVec 32 := Scalar.muli arg7 c512_i32_40
  v98
def k0_off9 (i : grid0.Coords) (k0_t4 : Fin (k0_t4_loop i).trips) : Fin 3 → Nat :=
  let c0_41 : Index := 0#32
  let c0_i32_22 : BitVec 32 := 0#32
  let arg2 : BitVec 32 := BitVec.ofNat 32 (i 2).val
  let v52 : BitVec 32 := Scalar.subi arg2 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg7 : BitVec 32 := Scf.iv v56 c1_i32_25 k0_t4
  let c512_i32_40 : BitVec 32 := 512#32
  let v98 : BitVec 32 := Scalar.muli arg7 c512_i32_40
  let v99 : BitVec 32 := v98
  let v100 : Index := Scalar.indexCast v99
  let c128_42 : Index := 128#32
  ![0, v100.toNat, 128]
def k0_off10 (i : grid0.Coords) (k0_t4 : Fin (k0_t4_loop i).trips) : Fin 4 → Nat :=
  let c0_46 : Index := 0#32
  let c0_i32_22 : BitVec 32 := 0#32
  let arg2 : BitVec 32 := BitVec.ofNat 32 (i 2).val
  let v52 : BitVec 32 := Scalar.subi arg2 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg7 : BitVec 32 := Scf.iv v56 c1_i32_25 k0_t4
  let v116 : Index := Scalar.indexCast arg7
  let c64_47 : Index := 64#32
  let c0_48 : Index := 0#32
  ![0, v116.toNat, 64, 0]
def k0_mult6 (i : grid0.Coords) : BitVec 32 :=
  let arg2 : BitVec 32 := BitVec.ofNat 32 (i 2).val
  let c512_i32_26 : BitVec 32 := 512#32
  let v59 : BitVec 32 := Scalar.muli arg2 c512_i32_26
  v59
def k0_off11 (i : grid0.Coords) : Fin 3 → Nat :=
  let c0_27 : Index := 0#32
  let arg2 : BitVec 32 := BitVec.ofNat 32 (i 2).val
  let c512_i32_26 : BitVec 32 := 512#32
  let v59 : BitVec 32 := Scalar.muli arg2 c512_i32_26
  let v60 : BitVec 32 := v59
  let v61 : Index := Scalar.indexCast v60
  let c128_28 : Index := 128#32
  ![0, v61.toNat, 128]
def k0_off12 (i : grid0.Coords) : Fin 4 → Nat :=
  let c0_33 : Index := 0#32
  let arg2 : BitVec 32 := BitVec.ofNat 32 (i 2).val
  let v80 : Index := Scalar.indexCast arg2
  let c64 : Index := 64#32
  let c0_34 : Index := 0#32
  ![0, v80.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x1024x4096 : Shape := ⟨3, ![8, 1024, 4096]⟩
abbrev S8x4096x1024 : Shape := ⟨3, ![8, 4096, 1024]⟩
abbrev S8x8x512x512 : Shape := ⟨4, ![8, 8, 512, 512]⟩
abbrev S8x8x128x4096 : Shape := ⟨4, ![8, 8, 128, 4096]⟩
abbrev S8x8x4096x128 : Shape := ⟨4, ![8, 8, 4096, 128]⟩
abbrev S8x4096x8x128 : Shape := ⟨4, ![8, 4096, 8, 128]⟩
abbrev S8x8x8x64x512 : Shape := ⟨5, ![8, 8, 8, 64, 512]⟩
abbrev S8x8x8x512x64 : Shape := ⟨5, ![8, 8, 8, 512, 64]⟩
abbrev S8x8x4096x64 : Shape := ⟨4, ![8, 8, 4096, 64]⟩
abbrev S8x8x4096x4096 : Shape := ⟨4, ![8, 8, 4096, 4096]⟩
abbrev S_ : Shape := ⟨0, ![]⟩
abbrev S4096x4096 : Shape := ⟨2, ![4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x4096x8x64 : Shape := ⟨4, ![8, 4096, 8, 64]⟩
abbrev S8x4096x512 : Shape := ⟨3, ![8, 4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x8x512x512, .bf16⟩
  | .hbm, ⟨3, _⟩ => ⟨S8x1024x4096, .f32⟩
  | .hbm, ⟨4, _⟩ => ⟨S8x8x128x4096, .f32⟩
  | .hbm, ⟨5, _⟩ => ⟨S8x8x4096x128, .f32⟩
  | .hbm, ⟨6, _⟩ => ⟨S8x4096x1024, .f32⟩
  | .hbm, ⟨7, _⟩ => ⟨S8x4096x8x128, .f32⟩
  | .hbm, ⟨8, _⟩ => ⟨S8x8x4096x128, .f32⟩
  | .hbm, ⟨9, _⟩ => ⟨S8x8x512x512, .f32⟩
  | .hbm, ⟨10, _⟩ => ⟨S8x8x8x64x512, .f32⟩
  | .hbm, ⟨11, _⟩ => ⟨S8x8x8x512x64, .f32⟩
  | .hbm, ⟨12, _⟩ => ⟨S8x8x4096x64, .f32⟩
  | .hbm, ⟨13, _⟩ => ⟨S8x8x4096x4096, .f32⟩
  | .hbm, ⟨14, _⟩ => ⟨S_, .f32⟩
  | .hbm, ⟨15, _⟩ => ⟨S_, .f32⟩
  | .hbm, ⟨16, _⟩ => ⟨S8x8x4096x4096, .f32⟩
  | .hbm, ⟨17, _⟩ => ⟨S8x8x4096x4096, .f32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x1x4096x4096, .i1⟩
  | .hbm, ⟨22, _⟩ => ⟨S_, .f32⟩
  | .hbm, ⟨23, _⟩ => ⟨S_, .f32⟩
  | .hbm, ⟨24, _⟩ => ⟨S8x8x4096x4096, .i1⟩
  | .hbm, ⟨25, _⟩ => ⟨S8x8x4096x4096, .f32⟩
  | .hbm, ⟨26, _⟩ => ⟨S8x8x4096x4096, .f32⟩
  | .hbm, ⟨27, _⟩ => ⟨S_, .f32⟩
  | .hbm, ⟨28, _⟩ => ⟨S8x8x4096, .f32⟩
  | .hbm, ⟨29, _⟩ => ⟨S_, .f32⟩
  | .hbm, ⟨30, _⟩ => ⟨S8x8x4096, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S_, .f32⟩
  | .hbm, ⟨37, _⟩ => ⟨S8x8x4096, .f32⟩
  | .hbm, ⟨38, _⟩ => ⟨S8x8x4096x1, .f32⟩
  | .hbm, ⟨39, _⟩ => ⟨S8x8x4096x4096, .f32⟩
  | .hbm, ⟨40, _⟩ => ⟨S8x8x4096x4096, .f32⟩
  | .hbm, ⟨41, _⟩ => ⟨S8x8x4096x64, .f32⟩
  | .hbm, ⟨42, _⟩ => ⟨S8x4096x8x64, .f32⟩
  | .hbm, ⟨43, _⟩ => ⟨S8x4096x512, .f32⟩
  | .hbm, ⟨44, _⟩ => ⟨S8x4096x512, .bf16⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Out.lean ====
abbrev S8x4096x1024 : Shape := ⟨3, ![8, 4096, 1024]⟩
abbrev S8x4096x512 : Shape := ⟨3, ![8, 4096, 512]⟩
abbrev S1x8x4096x256 : Shape := ⟨4, ![1, 8, 4096, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x256x1024 : Shape := ⟨3, ![1, 256, 1024]⟩
abbrev S8x4096x256 : Shape := ⟨3, ![8, 4096, 256]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1x256x512 : Shape := ⟨3, ![1, 256, 512]⟩
abbrev S1x256x256 : Shape := ⟨3, ![1, 256, 256]⟩
abbrev S264x2816 : Shape := ⟨2, ![264, 2816]⟩
abbrev S256x512 : Shape := ⟨2, ![256, 512]⟩
abbrev S256 : Shape := ⟨1, ![256]⟩
abbrev S256x1 : Shape := ⟨2, ![256, 1]⟩
abbrev S256x2816 : Shape := ⟨2, ![256, 2816]⟩
abbrev S8x2816 : Shape := ⟨2, ![8, 2816]⟩
abbrev S256x256 : Shape := ⟨2, ![256, 256]⟩

abbrev nBuf : Space → Nat
  | .hbm => 41
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x8x4096x256, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x3x2816, .f32⟩
  | .hbm, ⟨10, _⟩ => ⟨S1x2816, .f32⟩
  | .hbm, ⟨11, _⟩ => ⟨S1x2816x1024, .f32⟩
  | .hbm, ⟨12, _⟩ => ⟨S1x1024, .f32⟩
  | .hbm, ⟨13, _⟩ => ⟨S1x256x1024, .f32⟩
  | .hbm, ⟨14, _⟩ => ⟨S1x1024, .f32⟩
  | .hbm, ⟨15, _⟩ => ⟨S1x1024x1024, .f32⟩
  | .hbm, ⟨16, _⟩ => ⟨S8x4096x256, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024x2816, .f32⟩
  | .hbm, ⟨24, _⟩ => ⟨S1024x2816, .bf16⟩
  | .hbm, ⟨25, _⟩ => ⟨S1024x2816, .f32⟩
  | .hbm, ⟨26, _⟩ => ⟨S1024x2816, .bf16⟩
  | .hbm, ⟨27, _⟩ => ⟨S3x2816, .f32⟩
  | .hbm, ⟨28, _⟩ => ⟨S2816, .f32⟩
  | .hbm, ⟨29, _⟩ => ⟨S1x2816, .f32⟩
  | .hbm, ⟨30, _⟩ => ⟨S2816x1024, .f32⟩
  | .hbm, ⟨31, _⟩ => ⟨S2816x1024, .bf16⟩
  | .hbm, ⟨32, _⟩ => ⟨S1024, .f32⟩
  | .hbm, ⟨33, _⟩ => ⟨S1x1024, .f32⟩
  | .hbm, ⟨34, _⟩ => ⟨S256x1024, .f32⟩
  | .hbm, ⟨35, _⟩ => ⟨S256x1024, .bf16⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .bf16⟩
  | .hbm, ⟨40, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x256, .f32⟩
  | .local _ .vmem, ⟨7, _⟩ => ⟨S1x256x256, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S3x2816, .f32⟩
  | .local _ .vmem, ⟨14, _⟩ => ⟨S1x2816, .f32⟩
  | .local _ .vmem, ⟨15, _⟩ => ⟨S2816x1024, .bf16⟩
  | .local _ .vmem, ⟨16, _⟩ => ⟨S1x1024, .f32⟩
  | .local _ .vmem, ⟨17, _⟩ => ⟨S256x1024, .bf16⟩
  | .local _ .vmem, ⟨18, _⟩ => ⟨S1x1024, .f32⟩
  | .local _ .vmem, ⟨19, _⟩ => ⟨S1024x1024, .bf16⟩
  | .local _ .vmem, ⟨20, _⟩ => ⟨S1x256x1024, .f32⟩
  | .local _ .vmem, ⟨21, _⟩ => ⟨S1x256x1024, .f32⟩
  | .local _ .vmem, ⟨22, _⟩ => ⟨S264x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== OutRefIdeal.lean ====
abbrev S8x4096x1024 : Shape := ⟨3, ![8, 4096, 1024]⟩
abbrev S8x4096x512 : Shape := ⟨3, ![8, 4096, 512]⟩
abbrev S1x8x4096x256 : Shape := ⟨4, ![1, 8, 4096, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x256x1024 : Shape := ⟨3, ![1, 256, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S3x2816 : Shape := ⟨2, ![3, 2816]⟩
abbrev S2816 : Shape := ⟨1, ![2816]⟩
abbrev S8x4098x2816 : Shape := ⟨3, ![8, 4098, 2816]⟩
abbrev S1x1x2816 : Shape := ⟨3, ![1, 1, 2816]⟩
abbrev S2816x1024 : Shape := ⟨2, ![2816, 1024]⟩
abbrev S8x4096x256 : Shape := ⟨3, ![8, 4096, 256]⟩
abbrev S256x1024 : Shape := ⟨2, ![256, 1024]⟩

abbrev nBuf : Space → Nat
  | .hbm => 158
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S1x8x4096x256, .f32⟩
  | 4 => ⟨S1x1024x1024, .f32⟩
  | 5 => ⟨S1x1024, .f32⟩
  | 6 => ⟨S1x1024, .f32⟩
  | 7 => ⟨S1x1024x2816, .f32⟩
  | 8 => ⟨S1x1024x2816, .f32⟩
  | 9 => ⟨S1x3x2816, .f32⟩
  | 10 => ⟨S1x2816, .f32⟩
  | 11 => ⟨S1x2816x1024, .f32⟩
  | 12 => ⟨S1x1024, .f32⟩
  | 13 => ⟨S1x256x1024, .f32⟩
  | 14 => ⟨S1x1024, .f32⟩
  | 15 => ⟨S1x1024x1024, .f32⟩
  | 16 => ⟨S8x4096x512, .f32⟩
  | 17 => ⟨S8x4096x512, .f32⟩
  | 18 => ⟨S8x4096x1024, .f32⟩
  | 19 => ⟨S1024x1024, .f32⟩
  | 20 => ⟨S8x4096x1024, .f32⟩
  | 21 => ⟨S1024, .f32⟩
  | 22 => ⟨S8x4096x1024, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S_, .f32⟩
  | 30 => ⟨S8x4096x1, .f32⟩
  | 31 => ⟨S8x4096x1, .f32⟩
  | 32 => ⟨S8x4096x1, .f32⟩
  | 33 => ⟨S8x4096x1024, .f32⟩
  | 34 => ⟨S8x4096x1024, .f32⟩
  | 35 => ⟨S1x1x1024, .f32⟩
  | 36 => ⟨S8x4096x1024, .f32⟩
  | 37 => ⟨S8x4096x1024, .f32⟩
  | 38 => ⟨S8x4096x1024, .f32⟩
  | 39 => ⟨S1024, .f32⟩
  | 40 => ⟨S8x4096x1024, .f32⟩
  | 41 => ⟨S_, .f32⟩
  | 42 => ⟨S8x4096, .f32⟩
  | 43 => ⟨S8x4096x1, .f32⟩
  | 44 => ⟨S_, .f32⟩
  | 45 => ⟨S8x4096x1, .f32⟩
  | 46 => ⟨S8x4096x1, .f32⟩
  | 47 => ⟨S_, .f32⟩
  | 48 => ⟨S8x4096x1, .f32⟩
  | 49 => ⟨S8x4096x1, .f32⟩
  | 50 => ⟨S8x4096x1, .f32⟩
  | 51 => ⟨S8x4096x1024, .f32⟩
  | 52 => ⟨S8x4096x1024, .f32⟩
  | 53 => ⟨S1x1x1024, .f32⟩
  | 54 => ⟨S8x4096x1024, .f32⟩
  | 55 => ⟨S8x4096x1024, .f32⟩
  | 56 => ⟨S1024x2816, .f32⟩
  | 57 => ⟨S8x4096x2816, .f32⟩
  | 58 => ⟨S3x2816, .f32⟩
  | 59 => ⟨S2816, .f32⟩
  | 60 => ⟨S_, .i32⟩
  | 61 => ⟨S_, .f32⟩
  | 62 => ⟨S8x4098x2816, .f32⟩
  | 63 => ⟨S1x2816, .f32⟩
  | 64 => ⟨S2816, .f32⟩
  | 65 => ⟨S8x4096x2816, .f32⟩
  | 66 => ⟨S1x1x2816, .f32⟩
  | 67 => ⟨S8x4096x2816, .f32⟩
  | 68 => ⟨S8x4096x2816, .f32⟩
  | 69 => ⟨S1x2816, .f32⟩
  | 70 => ⟨S2816, .f32⟩
  | 71 => ⟨S8x4096x2816, .f32⟩
  | 72 => ⟨S1x1x2816, .f32⟩
  | 73 => ⟨S8x4096x2816, .f32⟩
  | 74 => ⟨S8x4096x2816, .f32⟩
  | 75 => ⟨S8x4096x2816, .f32⟩
  | 76 => ⟨S1x2816, .f32⟩
  | 77 => ⟨S2816, .f32⟩
  | 78 => ⟨S8x4096x2816, .f32⟩
  | 79 => ⟨S1x1x2816, .f32⟩
  | 80 => ⟨S8x4096x2816, .f32⟩
  | 81 => ⟨S8x4096x2816, .f32⟩
  | 82 => ⟨S8x4096x2816, .f32⟩
  | 83 => ⟨S1x1x2816, .f32⟩
  | 84 => ⟨S8x4096x2816, .f32⟩
  | 85 => ⟨S8x4096x2816, .f32⟩
  | 86 => ⟨S8x4096x2816, .f32⟩
  | 87 => ⟨S8x4096x2816, .f32⟩
  | 88 => ⟨S_, .f32⟩
  | 89 => ⟨S8x4096x2816, .f32⟩
  | 90 => ⟨S8x4096x2816, .f32⟩
  | 91 => ⟨S8x4096x2816, .f32⟩
  | 92 => ⟨S_, .f32⟩
  | 93 => ⟨S8x4096x2816, .f32⟩
  | 94 => ⟨S8x4096x2816, .f32⟩
  | 95 => ⟨S8x4096x2816, .f32⟩
  | 96 => ⟨S_, .f32⟩
  | 97 => ⟨S8x4096x2816, .f32⟩
  | 98 => ⟨S8x4096x2816, .f32⟩
  | 99 => ⟨S_, .f32⟩
  | 100 => ⟨S8x4096x2816, .f32⟩
  | 101 => ⟨S8x4096x2816, .f32⟩
  | 102 => ⟨S8x4096x2816, .f32⟩
  | 103 => ⟨S1024x2816, .f32⟩
  | 104 => ⟨S8x4096x2816, .f32⟩
  | 105 => ⟨S8x4096x2816, .f32⟩
  | 106 => ⟨S2816x1024, .f32⟩
  | 107 => ⟨S8x4096x1024, .f32⟩
  | 108 => ⟨S1024, .f32⟩
  | 109 => ⟨S8x4096x1024, .f32⟩
  | 110 => ⟨S_, .f32⟩
  | 111 => ⟨S8x4096, .f32⟩
  | 112 => ⟨S8x4096x1, .f32⟩
  | 113 => ⟨S_, .f32⟩
  | 114 => ⟨S8x4096x1, .f32⟩
  | 115 => ⟨S8x4096x1, .f32⟩
  | 116 => ⟨S_, .f32⟩
  | 117 => ⟨S8x4096x1, .f32⟩
  | 118 => ⟨S8x4096x1, .f32⟩
  | 119 => ⟨S8x4096x1, .f32⟩
  | 120 => ⟨S8x4096x1024, .f32⟩
  | 121 => ⟨S8x4096x1024, .f32⟩
  | 122 => ⟨S1x1x1024, .f32⟩
  | 123 => ⟨S8x4096x1024, .f32⟩
  | 124 => ⟨S8x4096x1024, .f32⟩
  | 125 => ⟨S8x4096x1024, .f32⟩
  | 126 => ⟨S8x4096x256, .f32⟩
  | 127 => ⟨S256x1024, .f32⟩
  | _ => ⟨S8x4096x1024, .f32⟩

abbrev hbmTy0_1 (i : Nat) : BufTy := match i % 128 with
  | 0 => ⟨S8x4096x1024, .f32⟩
  | 1 => ⟨S1024, .f32⟩
  | 2 => ⟨S8x4096x1024, .f32⟩
  | 3 => ⟨S_, .f32⟩
  | 4 => ⟨S8x4096, .f32⟩
  | 5 => ⟨S8x4096x1, .f32⟩
  | 6 => ⟨S_, .f32⟩
  | 7 => ⟨S8x4096x1, .f32⟩
  | 8 => ⟨S8x4096x1, .f32⟩
  | 9 => ⟨S_, .f32⟩
  | 10 => ⟨S8x4096x1, .f32⟩
  | 11 => ⟨S8x4096x1, .f32⟩
  | 12 => ⟨S8x4096x1, .f32⟩
  | 13 => ⟨S8x4096x1024, .f32⟩
  | 14 => ⟨S8x4096x1024, .f32⟩
  | 15 => ⟨S1x1x1024, .f32⟩
  | 16 => ⟨S8x4096x1024, .f32⟩
  | 17 => ⟨S8x4096x1024, .f32⟩
  | 18 => ⟨S1024x1024, .f32⟩
  | 19 => ⟨S8x4096x1024, .f32⟩
  | 20 => ⟨S8x4096x1024, .f32⟩
  | 21 => ⟨S8x4096x1024, .f32⟩
  | 22 => ⟨S_, .f32⟩
  | 23 => ⟨S8x4096x1024, .f32⟩
  | 24 => ⟨S8x4096x1024, .f32⟩
  | 25 => ⟨S_, .f32⟩
  | 26 => ⟨S8x4096x1024, .f32⟩
  | 27 => ⟨S8x4096x1024, .f32⟩
  | 28 => ⟨S8x4096x1024, .f32⟩
  | 29 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_7 : Ref sig .tc := ⟨.hbm, 96, rfl⟩
abbrev main_v70 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_9 : Ref sig .tc := ⟨.hbm, 110, rfl⟩
abbrev main_v82 : Ref sig .tc := ⟨.hbm, 111, rfl⟩
abbrev main_v83 : Ref sig .tc := ⟨.hbm, 112, rfl⟩
abbrev main_cst_10 : Ref sig .tc := ⟨.hbm, 113, rfl⟩
abbrev main_v84 : Ref sig .tc := ⟨.hbm, 114, rfl⟩
abbrev main_v85 : Ref sig .tc := ⟨.hbm, 115, rfl⟩
abbrev main_cst_11 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_12 : Ref sig .tc := ⟨.hbm, 131, rfl⟩
abbrev main_v100 : Ref sig .tc := ⟨.hbm, 132, rfl⟩
abbrev main_v101 : Ref sig .tc := ⟨.hbm, 133, rfl⟩
abbrev main_cst_13 : Ref sig .tc := ⟨.hbm, 134, rfl⟩
abbrev main_v102 : Ref sig .tc := ⟨.hbm, 135, rfl⟩
abbrev main_v103 : Ref sig .tc := ⟨.hbm, 136, rfl⟩
abbrev main_cst_14 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_15 : Ref sig .tc := ⟨.hbm, 150, rfl⟩
abbrev main_v116 : Ref sig .tc := ⟨.hbm, 151, rfl⟩
abbrev main_v117 : Ref sig .tc := ⟨.hbm, 152, rfl⟩
abbrev main_cst_16 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩

abbrev nD : Nat := 1
abbrev τ : Topo := Topo.v7x

variable {F : FTy → Type} [FloatOps F]
-- ==== In.lean ====
abbrev S8x4096x1024 : Shape := ⟨3, ![8, 4096, 1024]⟩
abbrev S8x4096 : Shape := ⟨2, ![8, 4096]⟩
abbrev S1x1024 : Shape := ⟨2, ![1, 1024]⟩
abbrev S1x1024x1696 : Shape := ⟨3, ![1, 1024, 1696]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x31x512 : Shape := ⟨3, ![1, 31, 512]⟩
abbrev S1x512 : Shape := ⟨2, ![1, 512]⟩
abbrev S1024x1696 : Shape := ⟨2, ![1024, 1696]⟩
abbrev S1024x32 : Shape := ⟨2, ![1024, 32]⟩
abbrev S1024x16 : Shape := ⟨2, ![1024, 16]⟩
abbrev S1024x640 : Shape := ⟨2, ![1024, 640]⟩
abbrev S1024x1024 : Shape := ⟨2, ![1024, 1024]⟩
abbrev S_ : Shape := ⟨0, ![]⟩
abbrev S1024x64 : Shape := ⟨2, ![1024, 64]⟩
abbrev S1024x128 : Shape := ⟨2, ![1024, 128]⟩
abbrev S1024x1920 : Shape := ⟨2, ![1024, 1920]⟩
abbrev S384x768 : Shape := ⟨2, ![384, 768]⟩
abbrev S768x384 : Shape := ⟨2, ![768, 384]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S16 : Shape := ⟨1, ![16]⟩
abbrev S16x1 : Shape := ⟨2, ![16, 1]⟩
abbrev S8x1x4096 : Shape := ⟨3, ![8, 1, 4096]⟩
abbrev S1024 : Shape := ⟨1, ![1024]⟩
abbrev S384 : Shape := ⟨1, ![384]⟩
abbrev S256 : Shape := ⟨1, ![256]⟩
abbrev S31x512 : Shape := ⟨2, ![31, 512]⟩
abbrev S512 : Shape := ⟨1, ![512]⟩
abbrev S8x1024x4096 : Shape := ⟨3, ![8, 1024, 4096]⟩
abbrev S8x8x512x512 : Shape := ⟨4, ![8, 8, 512, 512]⟩
abbrev S8x4096x512 : Shape := ⟨3, ![8, 4096, 512]⟩
abbrev S1x1x512 : Shape := ⟨3, ![1, 1, 512]⟩
abbrev S1x512x1024 : Shape := ⟨3, ![1, 512, 1024]⟩
abbrev S1x1024x512 : Shape := ⟨3, ![1, 1024, 512]⟩
abbrev S1x1x512x512 : Shape := ⟨4, ![1, 1, 512, 512]⟩
abbrev S1x512x512 : Shape := ⟨3, ![1, 512, 512]⟩
abbrev S544x512 : Shape := ⟨2, ![544, 512]⟩
abbrev S512x1024 : Shape := ⟨2, ![512, 1024]⟩
abbrev S512x1 : Shape := ⟨2, ![512, 1]⟩
abbrev S512x1920 : Shape := ⟨2, ![512, 1920]⟩
abbrev S512x384 : Shape := ⟨2, ![512, 384]⟩
abbrev S16x512 : Shape := ⟨2, ![16, 512]⟩
abbrev S768x512 : Shape := ⟨2, ![768, 512]⟩
abbrev S32x512 : Shape := ⟨2, ![32, 512]⟩
abbrev S64x512 : Shape := ⟨2, ![64, 512]⟩
abbrev S1x64x512 : Shape := ⟨3, ![1, 64, 512]⟩
abbrev S1x16x512 : Shape := ⟨3, ![1, 16, 512]⟩
abbrev S1x32x512 : Shape := ⟨3, ![1, 32, 512]⟩
abbrev S128x512 : Shape := ⟨2, ![128, 512]⟩
abbrev S512x128 : Shape := ⟨2, ![512, 128]⟩
abbrev S1x512x128 : Shape := ⟨3, ![1, 512, 128]⟩
abbrev S512x512 : Shape := ⟨2, ![512, 512]⟩

abbrev nBuf : Space → Nat
  | .hbm => 76
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1x1024, .f32⟩
  | .hbm, ⟨3, _⟩ => ⟨S1x1024x1696, .f32⟩
  | .hbm, ⟨4, _⟩ => ⟨S1x384, .f32⟩
  | .hbm, ⟨5, _⟩ => ⟨S1x384x768, .f32⟩
  | .hbm, ⟨6, _⟩ => ⟨S1x256, .f32⟩
  | .hbm, ⟨7, _⟩ => ⟨S1x256x1024, .f32⟩
  | .hbm, ⟨8, _⟩ => ⟨S1x31x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1024x1696, .f32⟩
  | .hbm, ⟨13, _⟩ => ⟨S1024x32, .f32⟩
  | .hbm, ⟨14, _⟩ => ⟨S1024x16, .f32⟩
  | .hbm, ⟨15, _⟩ => ⟨S1024x16, .f32⟩
  | .hbm, ⟨16, _⟩ => ⟨S1024x16, .f32⟩
  | .hbm, ⟨17, _⟩ => ⟨S1024x32, .f32⟩
  | .hbm, ⟨18, _⟩ => ⟨S1024x640, .f32⟩
  | .hbm, ⟨19, _⟩ => ⟨S1024x1024, .f32⟩
  | .hbm, ⟨20, _⟩ => ⟨S_, .f32⟩
  | .hbm, ⟨21, _⟩ => ⟨S1024x64, .f32⟩
  | .hbm, ⟨22, _⟩ => ⟨S_, .f32⟩
  | .hbm, ⟨23, _⟩ => ⟨S1024x32, .f32⟩
  | .hbm, ⟨24, _⟩ => ⟨S1024x128, .f32⟩
  | .hbm, ⟨25, _⟩ => ⟨S_, .f32⟩
  | .hbm, ⟨26, _⟩ => ⟨S1024x64, .f32⟩
  | .hbm, ⟨27, _⟩ => ⟨S_, .f32⟩
  | .hbm, ⟨28, _⟩ => ⟨S1024x32, .f32⟩
  | .hbm, ⟨29, _⟩ => ⟨S1024x128, .f32⟩
  | .hbm, ⟨30, _⟩ => ⟨S1024x1920, .f32⟩
  | .hbm, ⟨31, _⟩ => ⟨S1024x1920, .bf16⟩
  | .hbm, ⟨32, _⟩ => ⟨S384x768, .f32⟩
  | .hbm, ⟨33, _⟩ => ⟨S768x384, .f32⟩
  | .hbm, ⟨34, _⟩ => ⟨S768x384, .bf16⟩
  | .hbm, ⟨35, _⟩ => ⟨S256x1024, .f32⟩
  | .hbm, ⟨36, _⟩ => ⟨S256x1024, .bf16⟩
  | .hbm, ⟨37, _⟩ => ⟨S256x1024, .f32⟩
  | .hbm, ⟨38, _⟩ => ⟨S256x8x128, .f32⟩
  | .hbm, ⟨39, _⟩ => ⟨S256x8x64, .f32⟩
  | .hbm, ⟨40, _⟩ => ⟨S256x512, .f32⟩
  | .hbm, ⟨41, _⟩ => ⟨S512x256, .f32⟩
  | .hbm, ⟨42, _⟩ => ⟨S512x256, .bf16⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16x1, .f32⟩
  | .hbm, ⟨58, _⟩ => ⟨S8x1x4096, .i32⟩
  | .hbm, ⟨59, _⟩ => ⟨S1024, .f32⟩
  | .hbm, ⟨60, _⟩ => ⟨S1x1024, .f32⟩
  | .hbm, ⟨61, _⟩ => ⟨S384, .f32⟩
  | .hbm, ⟨62, _⟩ => ⟨S1x384, .f32⟩
  | .hbm, ⟨63, _⟩ => ⟨S256, .f32⟩
  | .hbm, ⟨64, _⟩ => ⟨S1x256, .f32⟩
  | .hbm, ⟨65, _⟩ => ⟨S31x512, .f32⟩
  | .hbm, ⟨66, _⟩ => ⟨S512, .f32⟩
  | .hbm, ⟨67, _⟩ => ⟨S1x512, .f32⟩
  | .hbm, ⟨68, _⟩ => ⟨S512, .f32⟩
  | .hbm, ⟨69, _⟩ => ⟨S1x512, .f32⟩
  | .hbm, ⟨70, _⟩ => ⟨S512, .f32⟩
  | .hbm, ⟨71, _⟩ => ⟨S1x512, .f32⟩
  | .hbm, ⟨72, _⟩ => ⟨S8x1024x4096, .bf16⟩
  | .hbm, ⟨73, _⟩ => ⟨S8x4096x1024, .bf16⟩
  | .hbm, ⟨74, _⟩ => ⟨S8x8x512x512, .bf16⟩
  | .hbm, ⟨75, _⟩ => ⟨S8x4096x512, .bf16⟩
  | .local _ .vmem, ⟨0, _⟩ => ⟨S1x1x512, .i32⟩
  | .local _ .vmem, ⟨1, _⟩ => ⟨S1x1x512, .i32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1024x1920, .bf16⟩
  | .local _ .vmem, ⟨6, _⟩ => ⟨S1x384, .f32⟩
  | .local _ .vmem, ⟨7, _⟩ => ⟨S768x384, .bf16⟩
  | .local _ .vmem, ⟨8, _⟩ => ⟨S1x256, .f32⟩
  | .local _ .vmem, ⟨9, _⟩ => ⟨S256x1024, .bf16⟩
  | .local _ .vmem, ⟨10, _⟩ => ⟨S512x256, .bf16⟩
  | .local _ .vmem, ⟨11, _⟩ => ⟨S16x1, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1x512x512, .bf16⟩
  | .local _ .vmem, ⟨21, _⟩ => ⟨S1x1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S544x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v52_2 : Ref sig .tc := ⟨.hbm, 74, rfl⟩
abbrev main_v52_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InIdeal.lean ====
variable {F : FTy → Type} [FloatOps F] [Named F]
def κ : String → Option EReal := fun
  | "scale" => some (((Real.sqrt 96)⁻¹ * (Real.log 2)⁻¹ : ℝ) : EReal)
  | _ => none
-- ==== InRefIdeal.lean ====
abbrev S8x4096x1024 : Shape := ⟨3, ![8, 4096, 1024]⟩
abbrev S8x4096 : Shape := ⟨2, ![8, 4096]⟩
abbrev S1x1024 : Shape := ⟨2, ![1, 1024]⟩
abbrev S1x1024x1696 : Shape := ⟨3, ![1, 1024, 1696]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x31x512 : Shape := ⟨3, ![1, 31, 512]⟩
abbrev S1x512 : Shape := ⟨2, ![1, 512]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S1024 : Shape := ⟨1, ![1024]⟩
abbrev S1x1x1024 : Shape := ⟨3, ![1, 1, 1024]⟩
abbrev S1024x1696 : Shape := ⟨2, ![1024, 1696]⟩
abbrev S8x4096x1696 : Shape := ⟨3, ![8, 4096, 1696]⟩
abbrev S8x4096x384 : Shape := ⟨3, ![8, 4096, 384]⟩
abbrev S8x4096x256 : Shape := ⟨3, ![8, 4096, 256]⟩
abbrev S8x4096x32 : Shape := ⟨3, ![8, 4096, 32]⟩
abbrev S384 : Shape := ⟨1, ![384]⟩
abbrev S1x1x384 : Shape := ⟨3, ![1, 1, 384]⟩
abbrev S384x768 : Shape := ⟨2, ![384, 768]⟩
abbrev S8x4096x768 : Shape := ⟨3, ![8, 4096, 768]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S256 : Shape := ⟨1, ![256]⟩
abbrev S1x1x256 : Shape := ⟨3, ![1, 1, 256]⟩
abbrev S256x1024 : Shape := ⟨2, ![256, 1024]⟩
abbrev S8x4096x8x128 : Shape := ⟨4, ![8, 4096, 8, 128]⟩
abbrev S8x4096x1x16 : Shape := ⟨4, ![8, 4096, 1, 16]⟩
abbrev S8x4096x8x16 : Shape := ⟨4, ![8, 4096, 8, 16]⟩
abbrev S8x4096x1x32 : Shape := ⟨4, ![8, 4096, 1, 32]⟩
abbrev S8x8x128x4096 : Shape := ⟨4, ![8, 8, 128, 4096]⟩
abbrev S8x1024x4096 : Shape := ⟨3, ![8, 1024, 4096]⟩
abbrev S8x8x512x8x64 : Shape := ⟨5, ![8, 8, 512, 8, 64]⟩
abbrev S8x8x8x64x512 : Shape := ⟨5, ![8, 8, 8, 64, 512]⟩
abbrev S8x8x512x512 : Shape := ⟨4, ![8, 8, 512, 512]⟩
abbrev S8x4096x512 : Shape := ⟨3, ![8, 4096, 512]⟩
abbrev S31x512 : Shape := ⟨2, ![31, 512]⟩
abbrev S512 : Shape := ⟨1, ![512]⟩
abbrev S8x4126x512 : Shape := ⟨3, ![8, 4126, 512]⟩
abbrev S1x1x512 : Shape := ⟨3, ![1, 1, 512]⟩

abbrev nBuf : Space → Nat
  | .hbm => 425
  | .vmem => 0
  | .smem => 0
  | _ => 0

abbrev hbmTy0_0 (i : Nat) : BufTy := match i % 128 with
  | 0 => ⟨S8x4096x1024, .f32⟩
  | 1 => ⟨S8x4096, .i32⟩
  | 2 => ⟨S1x1024, .f32⟩
  | 3 => ⟨S1x1024x1696, .f32⟩
  | 4 => ⟨S1x384, .f32⟩
  | 5 => ⟨S1x384x768, .f32⟩
  | 6 => ⟨S1x256, .f32⟩
  | 7 => ⟨S1x256x1024, .f32⟩
  | 8 => ⟨S1x31x512, .f32⟩
  | 9 => ⟨S1x512, .f32⟩
  | 10 => ⟨S1x512, .f32⟩
  | 11 => ⟨S1x512, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8x4096, .f32⟩
  | 27 => ⟨S8x4096x1, .f32⟩
  | 28 => ⟨S1x1x16, .f32⟩
  | 29 => ⟨S8x4096x16, .f32⟩
  | 30 => ⟨S8x4096x16, .f32⟩
  | 31 => ⟨S8x4096x16, .f32⟩
  | 32 => ⟨S8x4096x16, .f32⟩
  | 33 => ⟨S8x4096x16, .f32⟩
  | 34 => ⟨S1024, .f32⟩
  | 35 => ⟨S8x4096x1024, .f32⟩
  | 36 => ⟨S_, .f32⟩
  | 37 => ⟨S8x4096, .f32⟩
  | 38 => ⟨S8x4096x1, .f32⟩
  | 39 => ⟨S_, .f32⟩
  | 40 => ⟨S8x4096x1, .f32⟩
  | 41 => ⟨S8x4096x1, .f32⟩
  | 42 => ⟨S_, .f32⟩
  | 43 => ⟨S8x4096x1, .f32⟩
  | 44 => ⟨S8x4096x1, .f32⟩
  | 45 => ⟨S8x4096x1, .f32⟩
  | 46 => ⟨S8x4096x1024, .f32⟩
  | 47 => ⟨S8x4096x1024, .f32⟩
  | 48 => ⟨S1x1x1024, .f32⟩
  | 49 => ⟨S8x4096x1024, .f32⟩
  | 50 => ⟨S8x4096x1024, .f32⟩
  | 51 => ⟨S1024x1696, .f32⟩
  | 52 => ⟨S8x4096x1696, .f32⟩
  | 53 => ⟨S8x4096x384, .f32⟩
  | 54 => ⟨S8x4096x256, .f32⟩
  | 55 => ⟨S8x4096x32, .f32⟩
  | 56 => ⟨S8x4096x1024, .f32⟩
  | 57 => ⟨S384, .f32⟩
  | 58 => ⟨S8x4096x384, .f32⟩
  | 59 => ⟨S_, .f32⟩
  | 60 => ⟨S8x4096, .f32⟩
  | 61 => ⟨S8x4096x1, .f32⟩
  | 62 => ⟨S_, .f32⟩
  | 63 => ⟨S8x4096x1, .f32⟩
  | 64 => ⟨S8x4096x1, .f32⟩
  | 65 => ⟨S_, .f32⟩
  | 66 => ⟨S8x4096x1, .f32⟩
  | 67 => ⟨S8x4096x1, .f32⟩
  | 68 => ⟨S8x4096x1, .f32⟩
  | 69 => ⟨S8x4096x384, .f32⟩
  | 70 => ⟨S8x4096x384, .f32⟩
  | 71 => ⟨S1x1x384, .f32⟩
  | 72 => ⟨S8x4096x384, .f32⟩
  | 73 => ⟨S8x4096x384, .f32⟩
  | 74 => ⟨S384x768, .f32⟩
  | 75 => ⟨S8x4096x768, .f32⟩
  | 76 => ⟨S8x4096x8x96, .f32⟩
  | 77 => ⟨S8x4096x8x64, .f32⟩
  | 78 => ⟨S8x4096x8x32, .f32⟩
  | 79 => ⟨S256, .f32⟩
  | 80 => ⟨S8x4096x256, .f32⟩
  | 81 => ⟨S_, .f32⟩
  | 82 => ⟨S8x4096, .f32⟩
  | 83 => ⟨S8x4096x1, .f32⟩
  | 84 => ⟨S_, .f32⟩
  | 85 => ⟨S8x4096x1, .f32⟩
  | 86 => ⟨S8x4096x1, .f32⟩
  | 87 => ⟨S_, .f32⟩
  | 88 => ⟨S8x4096x1, .f32⟩
  | 89 => ⟨S8x4096x1, .f32⟩
  | 90 => ⟨S8x4096x1, .f32⟩
  | 91 => ⟨S8x4096x256, .f32⟩
  | 92 => ⟨S8x4096x256, .f32⟩
  | 93 => ⟨S1x1x256, .f32⟩
  | 94 => ⟨S8x4096x256, .f32⟩
  | 95 => ⟨S8x4096x256, .f32⟩
  | 96 => ⟨S256x1024, .f32⟩
  | 97 => ⟨S8x4096x1024, .f32⟩
  | 98 => ⟨S8x4096x8x128, .f32⟩
  | 99 => ⟨S8x4096x8x64, .f32⟩
  | 100 => ⟨S8x4096x8x64, .f32⟩
  | 101 => ⟨S8x4096x1x16, .f32⟩
  | 102 => ⟨S8x4096x1x16, .f32⟩
  | 103 => ⟨S8x4096x8x16, .f32⟩
  | 104 => ⟨S8x4096x8x16, .f32⟩
  | 105 => ⟨S8x4096x8x16, .f32⟩
  | 106 => ⟨S8x4096x8x16, .f32⟩
  | 107 => ⟨S8x4096x8x16, .f32⟩
  | 108 => ⟨S8x4096x8x16, .f32⟩
  | 109 => ⟨S8x4096x8x16, .f32⟩
  | 110 => ⟨S8x4096x8x16, .f32⟩
  | 111 => ⟨S8x4096x8x16, .f32⟩
  | 112 => ⟨S8x4096x8x16, .f32⟩
  | 113 => ⟨S8x4096x8x16, .f32⟩
  | 114 => ⟨S8x4096x8x16, .f32⟩
  | 115 => ⟨S8x4096x8x32, .f32⟩
  | 116 => ⟨S8x4096x16, .f32⟩
  | 117 => ⟨S8x4096x16, .f32⟩
  | 118 => ⟨S8x4096x16, .f32⟩
  | 119 => ⟨S8x4096x16, .f32⟩
  | 120 => ⟨S8x4096x16, .f32⟩
  | 121 => ⟨S8x4096x16, .f32⟩
  | 122 => ⟨S8x4096x16, .f32⟩
  | 123 => ⟨S8x4096x16, .f32⟩
  | 124 => ⟨S8x4096x32, .f32⟩
  | 125 => ⟨S_, .f32⟩
  | 126 => ⟨S_, .f32⟩
  | 127 => ⟨S_, .f32⟩
  | _ => ⟨S8x4096x1024, .f32⟩

abbrev hbmTy0_1 (i : Nat) : BufTy := match i % 128 with
  | 0 => ⟨S_, .f32⟩
  | 1 => ⟨S_, .f32⟩
  | 2 => ⟨S8x4096x8x96, .f32⟩
  | 3 => ⟨S8x4096x8x96, .f32⟩
  | 4 => ⟨S8x4096x8x96, .f32⟩
  | 5 => ⟨S_, .i32⟩
  | 6 => ⟨S_, .f32⟩
  | 7 => ⟨S8x4096x8x128, .f32⟩
  | 8 => ⟨S8x4096x1x32, .f32⟩
  | 9 => ⟨S8x4096x8x32, .f32⟩
  | 10 => ⟨S8x4096x8x96, .f32⟩
  | 11 => ⟨S_, .i32⟩
  | 12 => ⟨S_, .f32⟩
  | 13 => ⟨S8x4096x8x128, .f32⟩
  | 14 => ⟨S8x8x128x4096, .f32⟩
  | 15 => ⟨S8x1024x4096, .f32⟩
  | 16 => ⟨S8x4096x1024, .f32⟩
  | 17 => ⟨S8x8x512x8x64, .f32⟩
  | 18 => ⟨S8x8x8x64x512, .f32⟩
  | 19 => ⟨S8x8x512x512, .f32⟩
  | 20 => ⟨S8x4096x512, .f32⟩
  | 21 => ⟨S8x4096x512, .f32⟩
  | 22 => ⟨S8x4096x512, .f32⟩
  | 23 => ⟨S8x4096x512, .f32⟩
  | 24 => ⟨S_, .f32⟩
  | 25 => ⟨S8x4096x512, .f32⟩
  | 26 => ⟨S8x4096x512, .f32⟩
  | 27 => ⟨S_, .f32⟩
  | 28 => ⟨S8x4096x512, .f32⟩
  | 29 => ⟨S8x4096x512, .f32⟩
  | 30 => ⟨S8x4096x512, .f32⟩
  | 31 => ⟨S31x512, .f32⟩
  | 32 => ⟨S512, .f32⟩
  | 33 => ⟨S_, .i32⟩
  | 34 => ⟨S_, .f32⟩
  | 35 => ⟨S8x4126x512, .f32⟩
  | 36 => ⟨S1x512, .f32⟩
  | 37 => ⟨S512, .f32⟩
  | 38 => ⟨S8x4096x512, .f32⟩
  | 39 => ⟨S1x1x512, .f32⟩
  | 40 => ⟨S8x4096x512, .f32⟩
  | 41 => ⟨S8x4096x512, .f32⟩
  | 42 => ⟨S1x512, .f32⟩
  | 43 => ⟨S512, .f32⟩
  | 44 => ⟨S8x4096x512, .f32⟩
  | 45 => ⟨S1x1x512, .f32⟩
  | 46 => ⟨S8x4096x512, .f32⟩
  | 47 => ⟨S8x4096x512, .f32⟩
  | 48 => ⟨S8x4096x512, .f32⟩
  | 49 => ⟨S1x512, .f32⟩
  | 50 => ⟨S512, .f32⟩
  | 51 => ⟨S8x4096x512, .f32⟩
  | 52 => ⟨S1x1x512, .f32⟩
  | 53 => ⟨S8x4096x512, .f32⟩
  | 54 => ⟨S8x4096x512, .f32⟩
  | 55 => ⟨S8x4096x512, .f32⟩
  | 56 => ⟨S1x512, .f32⟩
  | 57 => ⟨S512, .f32⟩
  | 58 => ⟨S8x4096x512, .f32⟩
  | 59 => ⟨S1x1x512, .f32⟩
  | 60 => ⟨S8x4096x512, .f32⟩
  | 61 => ⟨S8x4096x512, .f32⟩
  | 62 => ⟨S8x4096x512, .f32⟩
  | 63 => ⟨S1x512, .f32⟩
  | 64 => ⟨S512, .f32⟩
  | 65 => ⟨S8x4096x512, .f32⟩
  | 66 => ⟨S1x1x512, .f32⟩
  | 67 => ⟨S8x4096x512, .f32⟩
  | 68 => ⟨S8x4096x512, .f32⟩
  | 69 => ⟨S8x4096x512, .f32⟩
  | 70 => ⟨S1x512, .f32⟩
  | 71 => ⟨S512, .f32⟩
  | 72 => ⟨S8x4096x512, .f32⟩
  | 73 => ⟨S1x1x512, .f32⟩
  | 74 => ⟨S8x4096x512, .f32⟩
  | 75 => ⟨S8x4096x512, .f32⟩
  | 76 => ⟨S8x4096x512, .f32⟩
  | 77 => ⟨S1x512, .f32⟩
  | 78 => ⟨S512, .f32⟩
  | 79 => ⟨S8x4096x512, .f32⟩
  | 80 => ⟨S1x1x512, .f32⟩
  | 81 => ⟨S8x4096x512, .f32⟩
  | 82 => ⟨S8x4096x512, .f32⟩
  | 83 => ⟨S8x4096x512, .f32⟩
  | 84 => ⟨S1x512, .f32⟩
  | 85 => ⟨S512, .f32⟩
  | 86 => ⟨S8x4096x512, .f32⟩
  | 87 => ⟨S1x1x512, .f32⟩
  | 88 => ⟨S8x4096x512, .f32⟩
  | 89 => ⟨S8x4096x512, .f32⟩
  | 90 => ⟨S8x4096x512, .f32⟩
  | 91 => ⟨S1x512, .f32⟩
  | 92 => ⟨S512, .f32⟩
  | 93 => ⟨S8x4096x512, .f32⟩
  | 94 => ⟨S1x1x512, .f32⟩
  | 95 => ⟨S8x4096x512, .f32⟩
  | 96 => ⟨S8x4096x512, .f32⟩
  | 97 => ⟨S8x4096x512, .f32⟩
  | 98 => ⟨S1x512, .f32⟩
  | 99 => ⟨S512, .f32⟩
  | 100 => ⟨S8x4096x512, .f32⟩
  | 101 => ⟨S1x1x512, .f32⟩
  | 102 => ⟨S8x4096x512, .f32⟩
  | 103 => ⟨S8x4096x512, .f32⟩
  | 104 => ⟨S8x4096x512, .f32⟩
  | 105 => ⟨S1x512, .f32⟩
  | 106 => ⟨S512, .f32⟩
  | 107 => ⟨S8x4096x512, .f32⟩
  | 108 => ⟨S1x1x512, .f32⟩
  | 109 => ⟨S8x4096x512, .f32⟩
  | 110 => ⟨S8x4096x512, .f32⟩
  | 111 => ⟨S8x4096x512, .f32⟩
  | 112 => ⟨S1x512, .f32⟩
  | 113 => ⟨S512, .f32⟩
  | 114 => ⟨S8x4096x512, .f32⟩
  | 115 => ⟨S1x1x512, .f32⟩
  | 116 => ⟨S8x4096x512, .f32⟩
  | 117 => ⟨S8x4096x512, .f32⟩
  | 118 => ⟨S8x4096x512, .f32⟩
  | 119 => ⟨S1x512, .f32⟩
  | 120 => ⟨S512, .f32⟩
  | 121 => ⟨S8x4096x512, .f32⟩
  | 122 => ⟨S1x1x512, .f32⟩
  | 123 => ⟨S8x4096x512, .f32⟩
  | 124 => ⟨S8x4096x512, .f32⟩
  | 125 => ⟨S8x4096x512, .f32⟩
  | 126 => ⟨S1x512, .f32⟩
  | 127 => ⟨S512, .f32⟩
  | _ => ⟨S8x4096x1024, .f32⟩

abbrev hbmTy0_2 (i : Nat) : BufTy := match i % 128 with
  | 0 => ⟨S8x4096x512, .f32⟩
  | 1 => ⟨S1x1x512, .f32⟩
  | 2 => ⟨S8x4096x512, .f32⟩
  | 3 => ⟨S8x4096x512, .f32⟩
  | 4 => ⟨S8x4096x512, .f32⟩
  | 5 => ⟨S1x512, .f32⟩
  | 6 => ⟨S512, .f32⟩
  | 7 => ⟨S8x4096x512, .f32⟩
  | 8 => ⟨S1x1x512, .f32⟩
  | 9 => ⟨S8x4096x512, .f32⟩
  | 10 => ⟨S8x4096x512, .f32⟩
  | 11 => ⟨S8x4096x512, .f32⟩
  | 12 => ⟨S1x512, .f32⟩
  | 13 => ⟨S512, .f32⟩
  | 14 => ⟨S8x4096x512, .f32⟩
  | 15 => ⟨S1x1x512, .f32⟩
  | 16 => ⟨S8x4096x512, .f32⟩
  | 17 => ⟨S8x4096x512, .f32⟩
  | 18 => ⟨S8x4096x512, .f32⟩
  | 19 => ⟨S1x512, .f32⟩
  | 20 => ⟨S512, .f32⟩
  | 21 => ⟨S8x4096x512, .f32⟩
  | 22 => ⟨S1x1x512, .f32⟩
  | 23 => ⟨S8x4096x512, .f32⟩
  | 24 => ⟨S8x4096x512, .f32⟩
  | 25 => ⟨S8x4096x512, .f32⟩
  | 26 => ⟨S1x512, .f32⟩
  | 27 => ⟨S512, .f32⟩
  | 28 => ⟨S8x4096x512, .f32⟩
  | 29 => ⟨S1x1x512, .f32⟩
  | 30 => ⟨S8x4096x512, .f32⟩
  | 31 => ⟨S8x4096x512, .f32⟩
  | 32 => ⟨S8x4096x512, .f32⟩
  | 33 => ⟨S1x512, .f32⟩
  | 34 => ⟨S512, .f32⟩
  | 35 => ⟨S8x4096x512, .f32⟩
  | 36 => ⟨S1x1x512, .f32⟩
  | 37 => ⟨S8x4096x512, .f32⟩
  | 38 => ⟨S8x4096x512, .f32⟩
  | 39 => ⟨S8x4096x512, .f32⟩
  | 40 => ⟨S1x512, .f32⟩
  | 41 => ⟨S512, .f32⟩
  | 42 => ⟨S8x4096x512, .f32⟩
  | 43 => ⟨S1x1x512, .f32⟩
  | 44 => ⟨S8x4096x512, .f32⟩
  | 45 => ⟨S8x4096x512, .f32⟩
  | 46 => ⟨S8x4096x512, .f32⟩
  | 47 => ⟨S1x512, .f32⟩
  | 48 => ⟨S512, .f32⟩
  | 49 => ⟨S8x4096x512, .f32⟩
  | 50 => ⟨S1x1x512, .f32⟩
  | 51 => ⟨S8x4096x512, .f32⟩
  | 52 => ⟨S8x4096x512, .f32⟩
  | 53 => ⟨S8x4096x512, .f32⟩
  | 54 => ⟨S1x512, .f32⟩
  | 55 => ⟨S512, .f32⟩
  | 56 => ⟨S8x4096x512, .f32⟩
  | 57 => ⟨S1x1x512, .f32⟩
  | 58 => ⟨S8x4096x512, .f32⟩
  | 59 => ⟨S8x4096x512, .f32⟩
  | 60 => ⟨S8x4096x512, .f32⟩
  | 61 => ⟨S1x512, .f32⟩
  | 62 => ⟨S512, .f32⟩
  | 63 => ⟨S8x4096x512, .f32⟩
  | 64 => ⟨S1x1x512, .f32⟩
  | 65 => ⟨S8x4096x512, .f32⟩
  | 66 => ⟨S8x4096x512, .f32⟩
  | 67 => ⟨S8x4096x512, .f32⟩
  | 68 => ⟨S1x512, .f32⟩
  | 69 => ⟨S512, .f32⟩
  | 70 => ⟨S8x4096x512, .f32⟩
  | 71 => ⟨S1x1x512, .f32⟩
  | 72 => ⟨S8x4096x512, .f32⟩
  | 73 => ⟨S8x4096x512, .f32⟩
  | 74 => ⟨S8x4096x512, .f32⟩
  | 75 => ⟨S1x512, .f32⟩
  | 76 => ⟨S512, .f32⟩
  | 77 => ⟨S8x4096x512, .f32⟩
  | 78 => ⟨S1x1x512, .f32⟩
  | 79 => ⟨S8x4096x512, .f32⟩
  | 80 => ⟨S8x4096x512, .f32⟩
  | 81 => ⟨S8x4096x512, .f32⟩
  | 82 => ⟨S1x512, .f32⟩
  | 83 => ⟨S512, .f32⟩
  | 84 => ⟨S8x4096x512, .f32⟩
  | 85 => ⟨S1x1x512, .f32⟩
  | 86 => ⟨S8x4096x512, .f32⟩
  | 87 => ⟨S8x4096x512, .f32⟩
  | 88 => ⟨S8x4096x512, .f32⟩
  | 89 => ⟨S1x512, .f32⟩
  | 90 => ⟨S512, .f32⟩
  | 91 => ⟨S8x4096x512, .f32⟩
  | 92 => ⟨S1x1x512, .f32⟩
  | 93 => ⟨S8x4096x512, .f32⟩
  | 94 => ⟨S8x4096x512, .f32⟩
  | 95 => ⟨S8x4096x512, .f32⟩
  | 96 => ⟨S1x512, .f32⟩
  | 97 => ⟨S512, .f32⟩
  | 98 => ⟨S8x4096x512, .f32⟩
  | 99 => ⟨S1x1x512, .f32⟩
  | 100 => ⟨S8x4096x512, .f32⟩
  | 101 => ⟨S8x4096x512, .f32⟩
  | 102 => ⟨S8x4096x512, .f32⟩
  | 103 => ⟨S1x512, .f32⟩
  | 104 => ⟨S512, .f32⟩
  | 105 => ⟨S8x4096x512, .f32⟩
  | 106 => ⟨S1x1x512, .f32⟩
  | 107 => ⟨S8x4096x512, .f32⟩
  | 108 => ⟨S8x4096x512, .f32⟩
  | 109 => ⟨S8x4096x512, .f32⟩
  | 110 => ⟨S1x512, .f32⟩
  | 111 => ⟨S512, .f32⟩
  | 112 => ⟨S8x4096x512, .f32⟩
  | 113 => ⟨S1x1x512, .f32⟩
  | 114 => ⟨S8x4096x512, .f32⟩
  | 115 => ⟨S8x4096x512, .f32⟩
  | 116 => ⟨S8x4096x512, .f32⟩
  | 117 => ⟨S1x512, .f32⟩
  | 118 => ⟨S512, .f32⟩
  | 119 => ⟨S8x4096x512, .f32⟩
  | 120 => ⟨S1x1x512, .f32⟩
  | 121 => ⟨S8x4096x512, .f32⟩
  | 122 => ⟨S8x4096x512, .f32⟩
  | 123 => ⟨S8x4096x512, .f32⟩
  | 124 => ⟨S1x1x512, .f32⟩
  | 125 => ⟨S8x4096x512, .f32⟩
  | 126 => ⟨S8x4096x512, .f32⟩
  | 127 => ⟨S512, .f32⟩
  | _ => ⟨S8x4096x1024, .f32⟩

abbrev hbmTy0_3 (i : Nat) : BufTy := match i % 128 with
  | 0 => ⟨S512, .f32⟩
  | 1 => ⟨S_, .f32⟩
  | 2 => ⟨S8x4096, .f32⟩
  | 3 => ⟨S8x4096x1, .f32⟩
  | 4 => ⟨S_, .f32⟩
  | 5 => ⟨S8x4096x1, .f32⟩
  | 6 => ⟨S8x4096x1, .f32⟩
  | 7 => ⟨S8x4096x512, .f32⟩
  | 8 => ⟨S8x4096x512, .f32⟩
  | 9 => ⟨S8x4096x512, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x512, .f32⟩
  | 21 => ⟨S8x4096x512, .f32⟩
  | 22 => ⟨S1x1x512, .f32⟩
  | 23 => ⟨S8x4096x512, .f32⟩
  | 24 => ⟨S8x4096x512, .f32⟩
  | 25 => ⟨S1x1x512, .f32⟩
  | 26 => ⟨S8x4096x512, .f32⟩
  | 27 => ⟨S8x4096x512, .f32⟩
  | 28 => ⟨S8x4096x512, .f32⟩
  | 29 => ⟨S8x4096x512, .f32⟩
  | 30 => ⟨S_, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S8x4096x512, .f32⟩
  | 37 => ⟨S8x1024x4096, .bf16⟩
  | 38 => ⟨S8x4096x1024, .bf16⟩
  | 39 => ⟨S8x8x512x512, .bf16⟩
  | 40 => ⟨S8x4096x512, .bf16⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_12 : Ref sig .tc := ⟨.hbm, 125, rfl⟩
abbrev main_v100 : Ref sig .tc := ⟨.hbm, 126, rfl⟩
abbrev main_cst_13 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_c : Ref sig .tc := ⟨.hbm, 133, rfl⟩
abbrev main_call0_v0 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c_14 : Ref sig .tc := ⟨.hbm, 139, rfl⟩
abbrev main_call1_v0 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_15 : Ref sig .tc := ⟨.hbm, 152, rfl⟩
abbrev main_v121 : Ref sig .tc := ⟨.hbm, 153, rfl⟩
abbrev main_v122 : Ref sig .tc := ⟨.hbm, 154, rfl⟩
abbrev main_cst_16 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_17 : Ref sig .tc := ⟨.hbm, 161, rfl⟩
abbrev main_call2_v0 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_v308 : Ref sig .tc := ⟨.hbm, 343, rfl⟩
abbrev main_v309 : Ref sig .tc := ⟨.hbm, 344, rfl⟩
abbrev main_v310 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev main_cst_18 : Ref sig .tc := ⟨.hbm, 385, rfl⟩
abbrev main_v350 : Ref sig .tc := ⟨.hbm, 386, rfl⟩
abbrev main_v351 : Ref sig .tc := ⟨.hbm, 387, rfl⟩
abbrev main_cst_19 : Ref sig .tc := ⟨.hbm, 388, rfl⟩
abbrev main_v352 : Ref sig .tc := ⟨.hbm, 389, rfl⟩
abbrev main_v353 : Ref sig .tc := ⟨.hbm, 390, rfl⟩
abbrev main_v354 : Ref sig .tc := ⟨.hbm, 391, rfl⟩
abbrev main_v355 : Ref sig .tc := ⟨.hbm, 392, rfl⟩
abbrev main_v356 : Ref sig .tc := ⟨.hbm, 393, rfl⟩
abbrev main_cst_20 : Ref sig .tc := ⟨.hbm, 394, rfl⟩
abbrev main_v357 : Ref sig .tc := ⟨.hbm, 395, rfl⟩
abbrev main_v358 : Ref sig .tc := ⟨.hbm, 396, rfl⟩
abbrev main_cst_21 : Ref sig .tc := ⟨.hbm, 397, rfl⟩
abbrev main_v359 : Ref sig .tc := ⟨.hbm, 398, rfl⟩
abbrev main_v360 : Ref sig .tc := ⟨.hbm, 399, rfl⟩
abbrev main_cst_22 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩
abbrev main_v368 : Ref sig .tc := ⟨.hbm, 408, rfl⟩
abbrev main_v369 : Ref sig .tc := ⟨.hbm, 409, rfl⟩
abbrev main_v370 : Ref sig .tc := ⟨.hbm, 410, rfl⟩
abbrev main_v371 : Ref sig .tc := ⟨.hbm, 411, rfl⟩
abbrev main_call3_v0 : Ref sig .tc := ⟨.hbm, 412, rfl⟩
abbrev main_call3_v1 : Ref sig .tc := ⟨.hbm, 413, rfl⟩
abbrev main_call3_cst : Ref sig .tc := ⟨.hbm, 414, rfl⟩
abbrev main_call3_v2 : Ref sig .tc := ⟨.hbm, 415, rfl⟩
abbrev main_call3_v3 : Ref sig .tc := ⟨.hbm, 416, rfl⟩
abbrev main_call3_cst_0 : Ref sig .tc := ⟨.hbm, 417, rfl⟩
abbrev main_call3_v4 : Ref sig .tc := ⟨.hbm, 418, rfl⟩
abbrev main_call3_v5 : Ref sig .tc := ⟨.hbm, 419, rfl⟩
abbrev main_v372 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_v376 : Ref sig .tc := ⟨.hbm, 424, rfl⟩

abbrev nD : Nat := 1
abbrev τ : Topo := Topo.v7x

variable {F : FTy → Type} [FloatOps F]
-- ==== Proof.OnlineSoftmax.lean ====
/-
  The arithmetic of the online softmax over the extended reals (hand-written, untrusted). A running triple — the
  greatest score so far, the sum of the weights relative to it, the weighted sum of the values relative to it — is
  carried over the keys tile by tile; every new maximum rescales the two sums. Scores are reals, or `⊥` at a key the
  mask drops; values are arbitrary extended reals. The quotient at the end is the softmax-weighted sum of the values.
-/
module

public import Idealize.ShloMosaic.Lib.Pointwise

@[expose] public section

noncomputable section

namespace Cert.OnlineSoftmax

open Idealize.ShloMosaic

/-- A score is a real number, or `⊥` where the mask drops the key. -/
abbrev Score (x : EReal) : Prop := x ≠ ⊤

theorem Score.cases {x : EReal} (h : Score x) : x = ⊥ ∨ ∃ r : ℝ, x = r := by
  induction x using EReal.rec with
  | bot => exact .inl rfl
  | top => exact absurd rfl h
  | coe r => exact .inr ⟨r, rfl⟩

/-- The weight `2 ^ (x - M)` of a score relative to a real is a non-negative real. -/
theorem exp2_real {x : EReal} (h : Score x) (M : ℝ) : ∃ r : ℝ, 0 ≤ r ∧ Ideal.exp2 (x - M) = r := by
  rcases h.cases with rfl | ⟨s, rfl⟩
  · exact ⟨0, le_rfl, by simp⟩
  · exact ⟨_, (Real.rpow_pos_of_pos two_pos (s - M)).le, by rw [← EReal.coe_sub]; rfl⟩

/-- Rescaling a weight from one maximum to another. -/
theorem exp2_rescale {x : EReal} (h : Score x) (M N : ℝ) :
    Ideal.exp2 ((M : EReal) - N) * Ideal.exp2 (x - M) = Ideal.exp2 (x - N) := by
  rcases h.cases with rfl | ⟨s, rfl⟩
  · simp
  · rw [← EReal.coe_sub, ← EReal.coe_sub, ← EReal.coe_sub, Ideal.exp2_coe, Ideal.exp2_coe, Ideal.exp2_coe, ← EReal.coe_mul]
    simp only [Real.rpow_eq_pow]
    rw [← Real.rpow_add two_pos]; congr 2; ring

/-- A non-negative real factor distributes over a finite sum of extended reals. -/
theorem mul_sum {ι : Type} (t : Finset ι) (c : ℝ) (hc : 0 ≤ c) (f : ι → EReal) :
    (c : EReal) * ∑ k ∈ t, f k = ∑ k ∈ t, (c : EReal) * f k := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- A finite sum of reals, as an extended real. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The running triple after `n` keys: at the start `(⊥, 0, 0)`, then a real maximum and the two sums relative to it. -/
def Good (s v : ℕ → EReal) (n : ℕ) (m l a : EReal) : Prop :=
  (n = 0 ∧ m = ⊥ ∧ l = 0 ∧ a = 0) ∨
  ∃ M : ℝ, m = M ∧ l = ∑ k ∈ Finset.range n, Ideal.exp2 (s k - M) ∧
    a = ∑ k ∈ Finset.range n, Ideal.exp2 (s k - M) * v k

/-- The greatest of finitely many scores, one of them real, is a real. -/
theorem sup_real {T : ℕ} (f : Fin T → EReal) (hf : ∀ j, Score (f j)) (j₀ : Fin T) (h₀ : f j₀ ≠ ⊥) :
    ∃ r : ℝ, Finset.univ.sup f = r := by
  have ht : Finset.univ.sup f ≠ ⊤ := by
    haveI : Nonempty (Fin T) := ⟨j₀⟩
    obtain ⟨j, -, hj⟩ := Finset.exists_mem_eq_sup Finset.univ Finset.univ_nonempty f
    rw [hj]; exact hf j
  have hb : Finset.univ.sup f ≠ ⊥ := fun h => h₀ (le_bot_iff.mp (h ▸ Finset.le_sup (f := f) (Finset.mem_univ j₀)))
  exact ⟨_, (EReal.coe_toReal ht hb).symm⟩

/-- One tile of `T` keys: the maximum is taken up, the two sums are rescaled and the tile's own sums added. -/
theorem Good.step {s v : ℕ → EReal} {n : ℕ} {m l a : EReal} (h : Good s v n m l a) (T : ℕ)
    (hs : ∀ k, Score (s k)) (j₀ : Fin T) (h₀ : s (n + j₀) ≠ ⊥) (t : EReal)
    (htile : t = Finset.univ.sup fun j : Fin T => s (n + j)) :
    Good s v (n + T) (max m t)
      (Ideal.exp2 (m - max m t) * l + ∑ j : Fin T, Ideal.exp2 (s (n + j) - max m t))
      (Ideal.exp2 (m - max m t) * a + ∑ j : Fin T, v (n + j) * Ideal.exp2 (s (n + j) - max m t)) := by
  obtain ⟨R, hR⟩ := sup_real (fun j : Fin T => s (n + j)) (fun j => hs _) j₀ h₀
  rw [hR] at htile
  subst htile
  have hr : ∀ (N : ℝ) (g : ℕ → EReal),
      (∑ j : Fin T, g (n + j)) = ∑ k ∈ Finset.range T, g (n + k) := fun N g =>
    (Finset.sum_range fun k => g (n + k)).symm
  rcases h with ⟨rfl, rfl, rfl, rfl⟩ | ⟨M, rfl, rfl, rfl⟩
  · refine .inr ⟨R, by simp, ?_, ?_⟩
    · rw [max_eq_right bot_le]
      simp [Finset.sum_range]
    · rw [max_eq_right bot_le]
      simp [Finset.sum_range, mul_comm]
  · have hm : max (M : EReal) (R : EReal) = ((max M R : ℝ) : EReal) := (EReal.coe_strictMono.monotone.map_max (a := M) (b := R)).symm
    refine .inr ⟨max M R, hm, ?_, ?_⟩
    · rw [hm, Finset.sum_range_add, hr 0 fun k => Ideal.exp2 (s k - (max M R : ℝ))]
      congr 1
      obtain ⟨c, hc, hce⟩ := exp2_real (EReal.coe_ne_top M) (max M R)
      rw [hce, mul_sum _ c hc, ← hce]
      exact Finset.sum_congr rfl fun k _ => exp2_rescale (hs k) M _
    · rw [hm, Finset.sum_range_add, hr 0 fun k => v k * Ideal.exp2 (s k - (max M R : ℝ))]
      congr 1
      · obtain ⟨c, hc, hce⟩ := exp2_real (EReal.coe_ne_top M) (max M R)
        rw [hce, mul_sum _ c hc, ← hce]
        refine Finset.sum_congr rfl fun k _ => ?_
        rw [← mul_assoc, exp2_rescale (hs k) M _]
      · exact Finset.sum_congr rfl fun k _ => mul_comm _ _

/-- The softmax weight in base `e` of the scores times `log 2` is the weight in base 2, up to one positive factor. -/
theorem exp_log2 {x : EReal} (h : Score x) (M N : ℝ) :
    Ideal.exp (x * (Real.log 2 : ℝ) - N) = ((Real.exp (M * Real.log 2 - N) : ℝ) : EReal) * Ideal.exp2 (x - M) := by
  rcases h.cases with rfl | ⟨s, rfl⟩
  · rw [EReal.bot_mul_coe_of_pos (Real.log_pos one_lt_two)]
    simp
  · rw [← EReal.coe_mul, ← EReal.coe_sub, ← EReal.coe_sub, Ideal.exp_coe, Ideal.exp2_coe, ← EReal.coe_mul]
    simp only [Real.rpow_eq_pow]
    rw [Real.rpow_def_of_pos two_pos, ← Real.exp_add]; congr 2; ring

/-- THE END: the weighted sum times the reciprocal of the weights' sum is the softmax, in base `e` of the scores times
    `log 2` and relative to any real, applied to the values of all `N` keys: those past `n` are masked. -/
theorem Good.finish {s v : ℕ → EReal} {n : ℕ} {m l a : EReal} (h : Good s v n m l a) (hs : ∀ k, Score (s k))
    (k₀ : ℕ) (hk : k₀ < n) (h₀ : s k₀ ≠ ⊥) (N : ℕ) (hN : n ≤ N) (hmask : ∀ k, n ≤ k → s k = ⊥) (μ : ℝ) :
    a * Ideal.div 1 l = ∑ k : Fin N,
      Ideal.div (Ideal.exp (s k * (Real.log 2 : ℝ) - μ)) (∑ j : Fin N, Ideal.exp (s j * (Real.log 2 : ℝ) - μ)) * v k := by
  rcases h with ⟨rfl, -⟩ | ⟨M, rfl, rfl, rfl⟩
  · omega
  choose w hw hwe using fun k => exp2_real (hs k) M
  set C : ℝ := Real.exp (M * Real.log 2 - μ) with hC
  have hCpos : 0 < C := Real.exp_pos _
  have hw0 : 0 < w k₀ := by
    rcases (hs k₀).cases with h' | ⟨r, h'⟩
    · exact absurd h' h₀
    · have := hwe k₀
      rw [h', ← EReal.coe_sub, Ideal.exp2_coe] at this
      have h2 : (2 : ℝ).rpow (r - M) = w k₀ := by exact_mod_cast this
      rw [← h2]; exact Real.rpow_pos_of_pos two_pos _
  have hzero : ∀ k, n ≤ k → w k = 0 := fun k hk' => by
    have := hwe k
    rw [hmask k hk'] at this
    have h2 : Ideal.exp2 (⊥ - (M : EReal)) = 0 := by simp
    rw [h2] at this; exact_mod_cast this.symm
  set L : ℝ := ∑ k ∈ Finset.range n, w k with hL
  have hLpos : 0 < L := Finset.sum_pos' (fun k _ => hw k) ⟨k₀, Finset.mem_range.mpr hk, hw0⟩
  have hl : (∑ k ∈ Finset.range n, Ideal.exp2 (s k - M)) = ((L : ℝ) : EReal) := by
    rw [hL, coe_sum]
    exact Finset.sum_congr rfl fun k _ => hwe k
  have hext : ∀ g : ℕ → EReal, (∀ k, n ≤ k → g k = 0) → (∑ k : Fin N, g k) = ∑ k ∈ Finset.range n, g k := fun g hg => by
    rw [← Finset.sum_range g]
    exact (Finset.sum_subset (Finset.range_mono hN) fun k _ hk' => hg k (by simpa using hk')).symm
  have he : ∀ k, Ideal.exp (s k * (Real.log 2 : ℝ) - μ) = ((C * w k : ℝ) : EReal) := fun k => by
    rw [exp_log2 (hs k) M μ, hwe k, ← EReal.coe_mul]
  have hS : (∑ j : Fin N, Ideal.exp (s j * (Real.log 2 : ℝ) - μ)) = ((C * L : ℝ) : EReal) := by
    rw [hext (fun k => Ideal.exp (s k * (Real.log 2 : ℝ) - μ)) fun k hk' => by
      show Ideal.exp (s k * (Real.log 2 : ℝ) - μ) = 0
      rw [he, hzero k hk']; simp]
    rw [hL, Finset.mul_sum, coe_sum]
    exact Finset.sum_congr rfl fun k _ => he k
  rw [hl, hS, Ideal.div_coe hLpos.ne', one_mul, mul_comm, mul_sum _ _ (by positivity)]
  rw [hext (fun k => Ideal.div (Ideal.exp (s k * (Real.log 2 : ℝ) - μ)) ((C * L : ℝ) : EReal) * v k) fun k hk' => by
    show Ideal.div (Ideal.exp (s k * (Real.log 2 : ℝ) - μ)) ((C * L : ℝ) : EReal) * v k = 0
    rw [he, hzero k hk', Ideal.div_coe (by positivity)]; simp]
  refine Finset.sum_congr rfl fun k _ => ?_
  rw [he, Ideal.div_coe (by positivity), hwe, ← mul_assoc, ← EReal.coe_mul, ← EReal.coe_mul]
  congr 2
  field_simp

end Cert.OnlineSoftmax

end
-- ==== Proof.AttnBlock.lean ====
module
public import proofs.«01_k».proof.Proof.Gen.AttnIdeal.Value
public import proofs.«01_k».proof.Proof.OnlineSoftmax
public import Idealize.ShloMosaic.Lib.Pointwise
public import Idealize.ShloMosaic.Lib.Pipeline.ValueKit

/-! What one tile of keys does to the online softmax of the attention kernel, in its own payloads. -/

@[expose] public section
set_option maxRecDepth 16384
noncomputable section
namespace Cert.AttnIdeal.Value
open Idealize.ShloMosaic Idealize.ShloMosaic.TcCoe Idealize.SL.Sem Cert.AttnIdeal Cert.AttnIdeal.Gen
open Cert.OnlineSoftmax

/-- Queries of one head, `[1, 128, 512]`. -/
local notation "Q" => Vec Ideal S1x128x512 EltTy.bf16
/-- One tile of keys, `[1, 512, 128]`. -/
local notation "K" => Vec Ideal S1x512x128 EltTy.bf16
/-- One tile of values, `[1, 1, 64, 512]`. -/
local notation "V" => Vec Ideal S1x1x64x512 EltTy.bf16
/-- One number per query. -/
local notation "Row" => FVec Ideal S1x512 FTy.f32
/-- The weighted values, `[64, 512]`. -/
local notation "Acc" => FVec Ideal S64x512 FTy.f32

/-- The word of −∞ is the least extended real. -/
theorem negInf_word : Ideal.ofBits .f32 4286578688#32 = (⊥ : EReal) := by
  simp [Ideal.ofBits, Ideal.ieee]

/-- The maximum of a tile, as the program folds it, is the supremum. -/
theorem fold_max_eq_sup {n : ℕ} (f : Fin n → EReal) :
    Finset.fold max (Ideal.ofBits .f32 4286578688#32) f Finset.univ = Finset.univ.sup f := by
  rw [negInf_word]; rfl

/-- The causal comparison of two lanes. -/
theorem select_le (j y : Fin 512) (a b : EReal) :
    Scalar.select (IntOp.cmpi .sle (BitVec.ofNat 32 j) (BitVec.ofNat 32 y)) a b = if j ≤ y then a else b := by
  have hj := j.isLt
  have hy := y.isLt
  have : IntOp.cmpi .sle (BitVec.ofNat 32 j.val) (BitVec.ofNat 32 y.val) = if j ≤ y then 1#1 else 0#1 := by
    have h1 : (BitVec.ofNat 32 j.val).toInt = j.val := by
      rw [BitVec.toInt_eq_toNat_of_lt] <;> simp <;> omega
    have h2 : (BitVec.ofNat 32 y.val).toInt = y.val := by
      rw [BitVec.toInt_eq_toNat_of_lt] <;> simp <;> omega
    simp only [IntOp.cmpi, BitVec.sle, h1, h2, Fin.le_def]
    by_cases h : j.val ≤ y.val <;> simp [h]
  rw [this]
  split <;> simp [Scalar.select]

/-- The scores of a tile: keys times queries. -/
theorem pay6_apply (q : Q) (k : K) (j y : Fin 512) :
    k0_pay6 q k (ix2 j y) = ∑ d : Fin 128, k (ix3 0 j d) * q (ix3 0 d y) := by
  pointwise [k0_pay6, k0_pay2]

/-- The running maximum after a tile. -/
theorem pay7_apply (q : Q) (m : Row) (k : K) (y : Fin 512) :
    k0_pay7 q m k (ix2 0 y) = max (m (ix2 0 y)) (Finset.univ.sup fun j : Fin 512 => k0_pay6 q k (ix2 j y)) := by
  pointwise [k0_pay7]
  rw [fold_max_eq_sup]

/-- The running sum after a tile. -/
theorem pay10_apply (q : Q) (m l : Row) (k : K) (y : Fin 512) :
    k0_pay10 q m l k (ix2 0 y) = Ideal.exp2 (m (ix2 0 y) - k0_pay7 q m k (ix2 0 y)) * l (ix2 0 y)
      + ∑ j : Fin 512, Ideal.exp2 (k0_pay6 q k (ix2 j y) - k0_pay7 q m k (ix2 0 y)) := by
  pointwise [k0_pay10, k0_pay8, k0_pay9]
  rfl

/-- The running weighted values after a tile. -/
theorem pay11_apply (q : Q) (m : Row) (a : Acc) (k : K) (v : V) (d : Fin 64) (y : Fin 512) :
    k0_pay11 q m a k v (ix2 d y) = Ideal.exp2 (m (ix2 0 y) - k0_pay7 q m k (ix2 0 y)) * a (ix2 d y)
      + ∑ j : Fin 512, v (ix4 0 0 d j) * Ideal.exp2 (k0_pay6 q k (ix2 j y) - k0_pay7 q m k (ix2 0 y)) := by
  pointwise [k0_pay11, k0_pay8, k0_pay9]
  rfl

/-- The scores of the diagonal tile, −∞ above the diagonal. -/
theorem pay18_apply (q : Q) (k : K) (j y : Fin 512) :
    k0_pay18 q k (ix2 j y) = if j ≤ y then k0_pay6 q k (ix2 j y) else ⊥ := by
  rw [pay6_apply]
  pointwise [k0_pay18, k0_pay2]
  rw [select_le, negInf_word]

/-- The maximum after the diagonal tile. -/
theorem pay19_apply (q : Q) (m : Row) (k : K) (y : Fin 512) :
    k0_pay19 q m k (ix2 0 y) = max (m (ix2 0 y)) (Finset.univ.sup fun j : Fin 512 => k0_pay18 q k (ix2 j y)) := by
  pointwise [k0_pay19]
  rw [fold_max_eq_sup]

/-- The sum after the diagonal tile. -/
theorem pay22_apply (q : Q) (m l : Row) (k : K) (y : Fin 512) :
    k0_pay22 q m l k (ix2 0 y) = Ideal.exp2 (m (ix2 0 y) - k0_pay19 q m k (ix2 0 y)) * l (ix2 0 y)
      + ∑ j : Fin 512, Ideal.exp2 (k0_pay18 q k (ix2 j y) - k0_pay19 q m k (ix2 0 y)) := by
  pointwise [k0_pay22, k0_pay20, k0_pay21]
  rfl

/-- The quotient at the end of a head. -/
theorem pay23_apply (q : Q) (m l : Row) (a : Acc) (k : K) (v : V) (d : Fin 64) (y : Fin 512) :
    k0_pay23 a (k0_pay20 q m k) (k0_pay21 q m k) (k0_pay22 q m l k) v (ix2 d y) =
      (Ideal.exp2 (m (ix2 0 y) - k0_pay19 q m k (ix2 0 y)) * a (ix2 d y)
      + ∑ j : Fin 512, v (ix4 0 0 d j) * Ideal.exp2 (k0_pay18 q k (ix2 j y) - k0_pay19 q m k (ix2 0 y)))
      * Ideal.div 1 (k0_pay22 q m l k (ix2 0 y)) := by
  pointwise [k0_pay23, k0_pay20, k0_pay21]
  rfl

section Steps
variable {s v : ℕ → EReal} {n : ℕ} {q : Q} {m l : Row} {a : Acc} {k : K} {vt : V} {d : Fin 64} {y : Fin 512}

/-- A tile below the diagonal takes the online softmax 512 keys further. -/
theorem full_good (h : Good s v n (m (ix2 0 y)) (l (ix2 0 y)) (a (ix2 d y))) (hs : ∀ κ, Score (s κ))
    (h₀ : s n ≠ ⊥) (hk : ∀ j : Fin 512, k0_pay6 q k (ix2 j y) = s (n + j))
    (hv : ∀ j : Fin 512, vt (ix4 0 0 d j) = v (n + j)) :
    Good s v (n + 512) (k0_pay7 q m k (ix2 0 y)) (k0_pay10 q m l k (ix2 0 y)) (k0_pay11 q m a k vt (ix2 d y)) := by
  have g := h.step 512 hs 0 h₀ _ rfl
  rw [pay10_apply, pay11_apply, pay7_apply]
  simpa only [hk, hv] using g

/-- The quotient after the diagonal tile: the sums over the whole row. -/
theorem diag_value (h : Good s v n (m (ix2 0 y)) (l (ix2 0 y)) (a (ix2 d y))) (hs : ∀ κ, Score (s κ))
    (h₀ : s n ≠ ⊥) (hk : ∀ j : Fin 512, k0_pay18 q k (ix2 j y) = s (n + j))
    (hv : ∀ j : Fin 512, vt (ix4 0 0 d j) = v (n + j)) :
    ∃ m' l' a', Good s v (n + 512) m' l' a' ∧
      k0_pay23 a (k0_pay20 q m k) (k0_pay21 q m k) (k0_pay22 q m l k) vt (ix2 d y) = a' * Ideal.div 1 l' := by
  have g := h.step 512 hs 0 h₀ _ rfl
  refine ⟨_, _, _, g, ?_⟩
  rw [pay23_apply, pay22_apply, pay19_apply]
  simp only [hk, hv]

end Steps

/-! The second head runs the same operations. -/

theorem pay25_eq : k0_pay25 (F := Ideal) = k0_pay3 := rfl
theorem pay26_eq : k0_pay26 (F := Ideal) = k0_pay4 := rfl
theorem pay27_eq : k0_pay27 (F := Ideal) = k0_pay5 := rfl

/-- Before the first tile the maximum is −∞ and both sums are 0. -/
theorem init_good (s v : ℕ → EReal) (d : Fin 64) (y : Fin 512) :
    Good s v 0 (k0_pay3 (F := Ideal) (ix2 0 y)) (k0_pay4 (F := Ideal) (ix2 0 y)) (k0_pay5 (F := Ideal) (ix2 d y)) := by
  refine Or.inl ⟨rfl, ?_, ?_, ?_⟩
  · pointwise [k0_pay3]; exact negInf_word
  · pointwise [k0_pay4]
  · pointwise [k0_pay5]

/-- The output block from what each head holds before its diagonal tile. -/
def blockOut (A B : Row × Row × Acc) (q0 q1 : Q) (k0 k1 : K) (v0 v1 : V) : Vec Ideal S1x512x128 .bf16 :=
  k0_pay1 (k0_pay23 A.2.2 (k0_pay20 q0 A.1 k0) (k0_pay21 q0 A.1 k0) (k0_pay22 q0 A.1 A.2.1 k0) v0) B.2.2
    (k0_pay20 q1 B.1 k1) (k0_pay21 q1 B.1 k1) (mulf (k0_pay20 q1 B.1 k1) B.2.1)
    (multiReduction .add [0] S512 (k0_pay21 q1 B.1 k1) 0x00000000#32 reduces_S512x512_S512 (.inl rfl) rfl) v1

/-- The first head fills channels 0 to 63 of the block. -/
theorem blockOut_apply0 (A B : Row × Row × Acc) (q0 q1 : Q) (k0 k1 : K) (v0 v1 : V) (y : Fin 512) (d : Fin 64) :
    blockOut A B q0 q1 k0 k1 v0 v1 (ix3 0 y ⟨d.val, by omega⟩) =
      k0_pay23 A.2.2 (k0_pay20 q0 A.1 k0) (k0_pay21 q0 A.1 k0) (k0_pay22 q0 A.1 A.2.1 k0) v0 (ix2 d y) := by
  have := d.isLt
  pointwise [blockOut, k0_pay1]

/-- The second head fills channels 64 to 127. -/
theorem blockOut_apply1 (A B : Row × Row × Acc) (q0 q1 : Q) (k0 k1 : K) (v0 v1 : V) (y : Fin 512) (d : Fin 64) :
    blockOut A B q0 q1 k0 k1 v0 v1 (ix3 0 y ⟨64 + d.val, by omega⟩) =
      k0_pay23 B.2.2 (k0_pay20 q1 B.1 k1) (k0_pay21 q1 B.1 k1) (k0_pay22 q1 B.1 B.2.1 k1) v1 (ix2 d y) := by
  have := d.isLt
  pointwise [blockOut, k0_pay1, k0_pay23, k0_pay22]

end Cert.AttnIdeal.Value
-- ==== Proof.AttnRun.lean ====
module
public import proofs.«01_k».proof.Proof.AttnBlock

/-! What the attention kernel leaves in its output block at one grid point. -/

@[expose] public section
set_option maxRecDepth 16384
noncomputable section
namespace Cert.AttnIdeal.Value
open Idealize.ShloMosaic Idealize.ShloMosaic.TcCoe Idealize.SL.Sem Cert.AttnIdeal Cert.AttnIdeal.Gen
open Cert.OnlineSoftmax

/-- Coordinate 2 of a grid point is below 8. -/
theorem i2_lt (i : grid0.Coords) : (i 2).val < 8 := (i 2).isLt

/-- The number of full tiles of the first head is the query tile's number. -/
theorem trips1 (i : grid0.Coords) : (k0_t1_loop i).trips = (i 2).val := by
  have h := i2_lt i
  unfold k0_t1_loop
  generalize (i 2).val = n at h
  interval_cases n <;> rfl

/-- The number of full tiles of the second head is the query tile's number. -/
theorem trips3 (i : grid0.Coords) : (k0_t3_loop i).trips = (i 2).val := by
  have h := i2_lt i
  unfold k0_t3_loop
  generalize (i 2).val = n at h
  interval_cases n <;> rfl

/-- The loops after the unrolled ones run no trip. -/
theorem trips2 (i : grid0.Coords) : (k0_t2_loop i).trips = 0 := Nat.le_zero.1 (k0_t2_abs i).2.1
theorem trips4 (i : grid0.Coords) : (k0_t4_loop i).trips = 0 := Nat.le_zero.1 (k0_t4_abs i).2.1

/-- The score of query lane `y` of the tile `i2` against key `κ` in head `e` of the pair; −∞ for the keys after the query. -/
def score (x0 : Vec Ideal S1x256x512 .bf16) (x1 : Vec Ideal S1x4096x256 .bf16) (e : Fin 2) (i2 : ℕ) (y : Fin 512) (κ : ℕ) : EReal :=
  if h : κ < 4096 ∧ κ ≤ 512 * i2 + y then
    ∑ d : Fin 128, x1 (ix3 0 ⟨κ, h.1⟩ ⟨128 * e + d, by omega⟩) * x0 (ix3 0 ⟨128 * e + d, by omega⟩ y)
  else ⊥

/-- Channel `d` of the value of key `κ` in head `e` of the pair. -/
def value (x2 : Vec Ideal S1x8x128x512 .bf16) (e : Fin 2) (d : Fin 64) (κ : ℕ) : EReal :=
  if h : κ < 4096 then x2 (ix4 0 ⟨κ / 512, by omega⟩ ⟨64 * e + d, by omega⟩ ⟨κ % 512, by omega⟩) else 0

section Tiles
variable (arg3 : Memref sig .tc .vmem S1x256x512 .bf16) (harg3 : arg3.IsWhole)
  (arg4 : Memref sig .tc .vmem S1x4096x256 .bf16) (harg4 : arg4.IsWhole)
  (arg5 : Memref sig .tc .vmem S1x8x128x512 .bf16) (harg5 : arg5.IsWhole)
  (x0 : Vec Ideal S1x256x512 .bf16) (x1 : Vec Ideal S1x4096x256 .bf16) (x2 : Vec Ideal S1x8x128x512 .bf16)

/-- The queries of head `e`. -/
theorem query_tile (e : Fin 2) (o : Fin 3 → ℕ) (ho : o = ![0, 128 * e.val, 0])
    (inb : ∀ a, o a + S1x128x512.size a ≤ S1x256x512.size a) (d : Fin 128) (y : Fin 512) :
    (View.readAt (Elt Ideal) arg3.view (Rect.unit (s := S1x256x512) o S1x128x512.size inb).toLoadRect (harg3.unread x0) : Vec Ideal S1x128x512 .bf16) (ix3 0 d y)
      = x0 (ix3 0 ⟨128 * e + d, by omega⟩ y) := by
  subst ho
  simp only [View.readAt_eq_ld, harg3.read_unread]
  pointwise

/-- A tile of keys of head `e`. -/
theorem key_tile (e : Fin 2) (n : ℕ) (o : Fin 3 → ℕ) (ho : o = ![0, n, 128 * e.val])
    (inb : ∀ a, o a + S1x512x128.size a ≤ S1x4096x256.size a) (j : Fin 512) (d : Fin 128) (hn : n + j < 4096) :
    (View.readAt (Elt Ideal) arg4.view (Rect.unit (s := S1x4096x256) o S1x512x128.size inb).toLoadRect (harg4.unread x1) : Vec Ideal S1x512x128 .bf16) (ix3 0 j d)
      = x1 (ix3 0 ⟨n + j, hn⟩ ⟨128 * e + d, by omega⟩) := by
  subst ho
  simp only [View.readAt_eq_ld, harg4.read_unread]
  pointwise

/-- A tile of values of head `e`. -/
theorem value_tile (e : Fin 2) (n : Fin 8) (o : Fin 4 → ℕ) (ho : o = ![0, n.val, 64 * e.val, 0])
    (inb : ∀ a, o a + S1x1x64x512.size a ≤ S1x8x128x512.size a) (d : Fin 64) (j : Fin 512) :
    (View.readAt (Elt Ideal) arg5.view (Rect.unit (s := S1x8x128x512) o S1x1x64x512.size inb).toLoadRect (harg5.unread x2) : Vec Ideal S1x1x64x512 .bf16) (ix4 0 0 d j)
      = value x2 e d (512 * n + j) := by
  subst ho
  have h1 : 512 * n.val + j.val < 4096 := by omega
  have h2 : (512 * n.val + j.val) / 512 = n.val := by omega
  have h3 : (512 * n.val + j.val) % 512 = j.val := by omega
  simp only [View.readAt_eq_ld, harg5.read_unread, value, h1, dite_true, h2, h3]
  pointwise

variable (arg6 : Memref sig .tc .vmem S1x512x128 .bf16) (harg6 : arg6.IsWhole) (c : Dev nD) (i : grid0.Coords)

/-- A score is never +∞ as long as keys and queries are finite. -/
theorem score_ne_top (hx0 : ∀ z, ∃ r : ℝ, x0 z = r) (hx1 : ∀ z, ∃ r : ℝ, x1 z = r) (e : Fin 2) (i2 : ℕ) (y : Fin 512) (κ : ℕ) :
    Score (score x0 x1 e i2 y κ) := by
  unfold score Score
  split
  · choose f hf using hx0
    choose g hg using hx1
    simp only [hf, hg, ← EReal.coe_mul, coe_sum]
    exact EReal.coe_ne_top _
  · exact bot_ne_top

/-- A key at or before the query has a score that is a number. -/
theorem score_ne_bot (hx0 : ∀ z, ∃ r : ℝ, x0 z = r) (hx1 : ∀ z, ∃ r : ℝ, x1 z = r) (e : Fin 2) (i2 : ℕ) (y : Fin 512) (κ : ℕ)
    (h : κ < 4096 ∧ κ ≤ 512 * i2 + y) : score x0 x1 e i2 y κ ≠ ⊥ := by
  unfold score
  rw [dif_pos h]
  choose f hf using hx0
  choose g hg using hx1
  simp only [hf, hg, ← EReal.coe_mul, coe_sum]
  exact EReal.coe_ne_bot _

/-- The scores the kernel computes for a tile of keys below the diagonal. -/
theorem tile_score (e : Fin 2) (i2 n : ℕ) (h : n < i2) (h8 : i2 < 8) (q : Vec Ideal S1x128x512 .bf16) (k : Vec Ideal S1x512x128 .bf16) (y : Fin 512)
    (hq : ∀ d : Fin 128, q (ix3 0 d y) = x0 (ix3 0 ⟨128 * e + d, by omega⟩ y))
    (hk : ∀ (j : Fin 512) (d : Fin 128) (hn : 512 * n + j < 4096), k (ix3 0 j d) = x1 (ix3 0 ⟨512 * n + j, hn⟩ ⟨128 * e + d, by omega⟩))
    (j : Fin 512) : k0_pay6 q k (ix2 j y) = score x0 x1 e i2 y (512 * n + j) := by
  have hn : 512 * n + j.val < 4096 := by omega
  rw [pay6_apply, score, dif_pos ⟨hn, by omega⟩]
  exact Finset.sum_congr rfl fun d _ => by rw [hq, hk j d hn]

/-- The scores the kernel computes for the diagonal tile. -/
theorem diag_score (e : Fin 2) (i2 : ℕ) (h8 : i2 < 8) (q : Vec Ideal S1x128x512 .bf16) (k : Vec Ideal S1x512x128 .bf16) (y : Fin 512)
    (hq : ∀ d : Fin 128, q (ix3 0 d y) = x0 (ix3 0 ⟨128 * e + d, by omega⟩ y))
    (hk : ∀ (j : Fin 512) (d : Fin 128) (hn : 512 * i2 + j < 4096), k (ix3 0 j d) = x1 (ix3 0 ⟨512 * i2 + j, hn⟩ ⟨128 * e + d, by omega⟩))
    (j : Fin 512) : k0_pay18 q k (ix2 j y) = score x0 x1 e i2 y (512 * i2 + j) := by
  have hn : 512 * i2 + j.val < 4096 := by omega
  rw [pay18_apply, pay6_apply, score]
  by_cases hj : j ≤ y
  · rw [if_pos hj, dif_pos ⟨hn, by have := Fin.le_def.1 hj; omega⟩]
    exact Finset.sum_congr rfl fun d _ => by rw [hq, hk j d hn]
  · rw [if_neg hj, dif_neg fun h => hj (Fin.le_def.2 (by omega))]

/-- The queries, as head 0 and head 1 load them. -/
abbrev q0 : Vec Ideal S1x128x512 .bf16 :=
  View.readAt (Elt Ideal) arg3.view (Rect.unit (s := S1x256x512) ![0, 0, 0] S1x128x512.size inb_S1x256x512_S1x128x512_0_0_0).toLoadRect (harg3.unread x0)
abbrev q1 : Vec Ideal S1x128x512 .bf16 :=
  View.readAt (Elt Ideal) arg3.view (Rect.unit (s := S1x256x512) ![0, 128, 0] S1x128x512.size inb_S1x256x512_S1x128x512_0_128_0).toLoadRect (harg3.unread x0)

/-- What head 0 carries after its tiles below the diagonal. -/
abbrev state0 :=
  st_k0_t2 Variants.none c none i arg3 harg3 arg4 harg4 arg5 harg5 arg6 harg6 (q0 arg3 harg3 x0) (harg4.unread x1) (harg5.unread x2)
    (st_k0_t1 Variants.none c none i arg3 harg3 arg4 harg4 arg5 harg5 arg6 harg6 (q0 arg3 harg3 x0) (harg4.unread x1) (harg5.unread x2)
      (k0_pay3, k0_pay4, k0_pay5) (k0_t1_loop i).trips) (k0_t2_loop i).trips

/-- What head 1 carries after its tiles below the diagonal, with the values of head 0 in scope. -/
abbrev state1 (w : BitVec 32) (w0 w1 : IVec S512x512 32) (w2 : FVec Ideal S64x512 .f32) (w3 : FVec Ideal S1x512 .f32)
    (w4 : FVec Ideal S512x512 .f32) (w5 : FVec Ideal S1x512 .f32) (w6 : Vec Ideal S1x1x64x512 .bf16) :=
  st_k0_t4 Variants.none c none i arg3 harg3 arg4 harg4 arg5 harg5 arg6 harg6 w w0 w1 w2 w3 w4 w5 w6 (q1 arg3 harg3 x0) (harg4.unread x1) (harg5.unread x2)
    (st_k0_t3 Variants.none c none i arg3 harg3 arg4 harg4 arg5 harg5 arg6 harg6 w w0 w1 w2 w3 w4 w5 w6 (q1 arg3 harg3 x0) (harg4.unread x1) (harg5.unread x2)
      (k0_pay25, k0_pay26, k0_pay27) (k0_t3_loop i).trips) (k0_t4_loop i).trips

/-- The block the kernel stores, from the states of its two heads. -/
theorem run_eq : ∃ w w0 w1 w2 w3 w4 w5 w6,
    out0_A_3 (F := Ideal) c i arg3 harg3 arg4 harg4 arg5 harg5 arg6 harg6 x0 x1 x2 =
    blockOut (state0 arg3 harg3 arg4 harg4 arg5 harg5 x0 x1 x2 arg6 harg6 c i) (state1 arg3 harg3 arg4 harg4 arg5 harg5 x0 x1 x2 arg6 harg6 c i w w0 w1 w2 w3 w4 w5 w6)
      (q0 arg3 harg3 x0) (q1 arg3 harg3 x0)
      (View.readAt (Elt Ideal) arg4.view (Rect.unit (s := S1x4096x256) (k0_off5 i) S1x512x128.size (k0_off5_inb i)).toLoadRect (harg4.unread x1))
      (View.readAt (Elt Ideal) arg4.view (Rect.unit (s := S1x4096x256) (k0_off11 i) S1x512x128.size (k0_off11_inb i)).toLoadRect (harg4.unread x1))
      (View.readAt (Elt Ideal) arg5.view (Rect.unit (s := S1x8x128x512) (k0_off6 i) S1x1x64x512.size (k0_off6_inb i)).toLoadRect (harg5.unread x2))
      (View.readAt (Elt Ideal) arg5.view (Rect.unit (s := S1x8x128x512) (k0_off12 i) S1x1x64x512.size (k0_off12_inb i)).toLoadRect (harg5.unread x2)) := by
  have hz : (![0, 0, 0] : Fin 3 → ℕ) = fun _ => 0 := by ext a; fin_cases a <;> rfl
  unfold out0_A_3
  rw [View.read_writes_eq_canon _ _ _ (cover0_A_3 c i arg3 harg3 arg4 harg4 arg5 harg5 arg6 harg6 x0 x1 x2)]
  unfold kernelRun0_A
  dsimp only
  rw [View.canon_unit_zero hz]
  exact ⟨_, _, _, _, _, _, _, _, rfl⟩

/-- Head 0 after `k` tiles. -/
theorem st1_good (hx0 : ∀ z, ∃ r : ℝ, x0 z = r) (hx1 : ∀ z, ∃ r : ℝ, x1 z = r) (y : Fin 512) (d : Fin 64) (k : ℕ) (hk : k ≤ (i 2).val) :
    let S := st_k0_t1 Variants.none c none i arg3 harg3 arg4 harg4 arg5 harg5 arg6 harg6 (q0 arg3 harg3 x0) (harg4.unread x1) (harg5.unread x2)
      (k0_pay3, k0_pay4, k0_pay5) k
    Good (score x0 x1 0 (i 2) y) (value x2 0 d) (512 * k) (S.1 (ix2 0 y)) (S.2.1 (ix2 0 y)) (S.2.2 (ix2 d y)) := by
  have h8 := i2_lt i
  induction k with
  | zero => exact init_good _ _ d y
  | succ k ih =>
    have hk' : k < (k0_t1_loop i).trips := by rw [trips1]; omega
    have ih := ih (by omega)
    have e := st_k0_t1_succ (F := Ideal) Variants.none c none i arg3 harg3 arg4 harg4 arg5 harg5 arg6 harg6 (q0 arg3 harg3 x0) (harg4.unread x1) (harg5.unread x2) (k0_pay3, k0_pay4, k0_pay5) ⟨k, hk'⟩
    dsimp only at e ih ⊢
    rw [e]
    unfold tripR_k0_t1 trip_k0_t1
    dsimp only
    refine full_good ih (score_ne_top x0 x1 hx0 hx1 0 _ y) (score_ne_bot x0 x1 hx0 hx1 0 _ y (512 * k) ⟨by omega, by omega⟩) ?_ ?_
    · exact tile_score x0 x1 0 _ k (by omega) h8 _ _ y
        (fun d => query_tile arg3 harg3 x0 0 _ rfl _ d y)
        (fun j d hn => key_tile arg4 harg4 x1 0 (512 * k) _ (k0_off1_eq i ⟨k, hk'⟩) _ j d hn)
    · exact fun j => value_tile arg5 harg5 x2 0 ⟨k, by omega⟩ _ (k0_off2_eq i ⟨k, hk'⟩) _ d j

/-- Head 1 after `k` tiles. -/
theorem st3_good (w : BitVec 32) (w0 w1 : IVec S512x512 32) (w2 : FVec Ideal S64x512 .f32) (w3 : FVec Ideal S1x512 .f32)
    (w4 : FVec Ideal S512x512 .f32) (w5 : FVec Ideal S1x512 .f32) (w6 : Vec Ideal S1x1x64x512 .bf16)
    (hx0 : ∀ z, ∃ r : ℝ, x0 z = r) (hx1 : ∀ z, ∃ r : ℝ, x1 z = r) (y : Fin 512) (d : Fin 64) (k : ℕ) (hk : k ≤ (i 2).val) :
    let S := st_k0_t3 Variants.none c none i arg3 harg3 arg4 harg4 arg5 harg5 arg6 harg6 w w0 w1 w2 w3 w4 w5 w6 (q1 arg3 harg3 x0) (harg4.unread x1) (harg5.unread x2)
      (k0_pay25, k0_pay26, k0_pay27) k
    Good (score x0 x1 1 (i 2) y) (value x2 1 d) (512 * k) (S.1 (ix2 0 y)) (S.2.1 (ix2 0 y)) (S.2.2 (ix2 d y)) := by
  have h8 := i2_lt i
  induction k with
  | zero => exact init_good _ _ d y
  | succ k ih =>
    have hk' : k < (k0_t3_loop i).trips := by rw [trips3]; omega
    have ih := ih (by omega)
    have e := st_k0_t3_succ (F := Ideal) Variants.none c none i arg3 harg3 arg4 harg4 arg5 harg5 arg6 harg6 w w0 w1 w2 w3 w4 w5 w6 (q1 arg3 harg3 x0) (harg4.unread x1) (harg5.unread x2) (k0_pay25, k0_pay26, k0_pay27) ⟨k, hk'⟩
    dsimp only at e ih ⊢
    rw [e]
    unfold tripR_k0_t3 trip_k0_t3
    dsimp only
    refine full_good ih (score_ne_top x0 x1 hx0 hx1 1 _ y) (score_ne_bot x0 x1 hx0 hx1 1 _ y (512 * k) ⟨by omega, by omega⟩) ?_ ?_
    · exact tile_score x0 x1 1 _ k (by omega) h8 _ _ y
        (fun d => query_tile arg3 harg3 x0 1 _ rfl _ d y)
        (fun j d hn => key_tile arg4 harg4 x1 1 (512 * k) _ (k0_off7_eq i ⟨k, hk'⟩) _ j d hn)
    · exact fun j => value_tile arg5 harg5 x2 1 ⟨k, by omega⟩ _ (k0_off8_eq i ⟨k, hk'⟩) _ d j

/-- The output block: in head `e`, channel `d`, query lane `y`, the softmax of the row of scores, shifted by any real, times the values. -/
theorem out_value (hx0 : ∀ z, ∃ r : ℝ, x0 z = r) (hx1 : ∀ z, ∃ r : ℝ, x1 z = r) (e : Fin 2) (y : Fin 512) (d : Fin 64) (μ : ℝ) :
    out0_A_3 (F := Ideal) c i arg3 harg3 arg4 harg4 arg5 harg5 arg6 harg6 x0 x1 x2 (ix3 0 y ⟨64 * e + d, by omega⟩) =
      ∑ k : Fin 4096, Ideal.div (Ideal.exp (score x0 x1 e (i 2) y k * (Real.log 2 : ℝ) - μ))
        (∑ j : Fin 4096, Ideal.exp (score x0 x1 e (i 2) y j * (Real.log 2 : ℝ) - μ)) * value x2 e d k := by
  have h8 := i2_lt i
  have hs := fun e => score_ne_top x0 x1 hx0 hx1 e (i 2) y
  have hd : ∀ e, score x0 x1 e (i 2) y (512 * (i 2).val) ≠ ⊥ := fun e => score_ne_bot x0 x1 hx0 hx1 e _ y _ ⟨by omega, by omega⟩
  have hm : ∀ e κ, 512 * (i 2).val + 512 ≤ κ → score x0 x1 e (i 2) y κ = ⊥ := fun e κ h => dif_neg (by omega)
  obtain ⟨w, w0, w1, w2, w3, w4, w5, w6, hrun⟩ := run_eq arg3 harg3 arg4 harg4 arg5 harg5 x0 x1 x2 arg6 harg6 c i
  rw [hrun]
  unfold state0 state1
  simp only [trips1, trips2, trips3, trips4]
  match e with
  | 0 =>
    have g := st1_good arg3 harg3 arg4 harg4 arg5 harg5 x0 x1 x2 arg6 harg6 c i hx0 hx1 y d _ le_rfl
    obtain ⟨m', l', a', g', h'⟩ := diag_value g (hs 0) (hd 0)
      (diag_score x0 x1 0 _ h8 _ _ y (fun d => query_tile arg3 harg3 x0 0 _ rfl _ d y)
        (fun j d hn => key_tile arg4 harg4 x1 0 (512 * (i 2).val) _ (k0_off5_eq i) (k0_off5_inb i) j d hn))
      (fun j => value_tile arg5 harg5 x2 0 ⟨i 2, h8⟩ _ (k0_off6_eq i) (k0_off6_inb i) d j)
    rw [← g'.finish (hs 0) (512 * (i 2).val) (by omega) (hd 0) 4096 (by omega) (hm 0) μ, ← h']
    exact (congrArg _ (by congr 1; ext; simp)).trans (blockOut_apply0 _ _ _ _ _ _ _ _ y d)
  | 1 =>
    have g := st3_good arg3 harg3 arg4 harg4 arg5 harg5 x0 x1 x2 arg6 harg6 c i w w0 w1 w2 w3 w4 w5 w6 hx0 hx1 y d _ le_rfl
    obtain ⟨m', l', a', g', h'⟩ := diag_value g (hs 1) (hd 1)
      (diag_score x0 x1 1 _ h8 _ _ y (fun d => query_tile arg3 harg3 x0 1 _ rfl _ d y)
        (fun j d hn => key_tile arg4 harg4 x1 1 (512 * (i 2).val) _ (k0_off11_eq i) (k0_off11_inb i) j d hn))
      (fun j => value_tile arg5 harg5 x2 1 ⟨i 2, h8⟩ _ (k0_off12_eq i) (k0_off12_inb i) d j)
    rw [← g'.finish (hs 1) (512 * (i 2).val) (by omega) (hd 1) 4096 (by omega) (hm 1) μ, ← h']
    exact blockOut_apply1 _ _ _ _ _ _ _ _ y d

end Tiles
end Cert.AttnIdeal.Value
-- ==== Proof.AttnRef.lean ====
module
public import proofs.«01_k».proof.Proof.Gen.AttnRefIdeal.Run
public import proofs.«01_k».proof.Proof.AttnBlock
public import Idealize.ShloMosaic.Lib.Pointwise
public import Idealize.ShloMosaic.Lib.Pipeline.ValueKit

/-! The attention reference, read at one entry of its result. -/

@[expose] public section
set_option maxRecDepth 16384
noncomputable section
namespace Cert.AttnRefIdeal.Value
open Idealize.ShloMosaic Idealize.ShloMosaic.TcCoe Idealize.SL.Sem Cert.AttnRefIdeal Cert.AttnRefIdeal.Gen

/-- The masked scores. -/
def SC (X : FVec Ideal S8x1024x4096 .bf16) (Y : FVec Ideal S8x4096x1024 .bf16) : FVec Ideal S8x8x4096x4096 .f32 :=
  select (broadcastInDim S8x8x4096x4096 ![0, 1, 2, 3] bcast_S1x1x4096x4096_S8x8x4096x4096_0_1_2_3 (broadcastInDim S1x1x4096x4096 ![2, 3] bcast_S4096x4096_S1x1x4096x4096_2_3 (cmpi .sle (iotaInDim S4096x4096 32 1) (iotaInDim S4096x4096 32 0)))) (mulf (Host.dotGeneral dot_S8x8x4096x128_S8x8x4096x128_S8x8x4096x4096_3_3_2_2_01_01 none (transpose S8x8x4096x128 [0, 1, 3, 2] (shapeCast _ (extf .f32 X bitsLt_bf16_f32) shapeCasts_S8x1024x4096_S8x8x128x4096) transposes_S8x8x128x4096_S8x8x4096x128_0_1_3_2) (transpose S8x8x4096x128 [0, 2, 1, 3] (shapeCast _ (extf .f32 Y bitsLt_bf16_f32) shapeCasts_S8x4096x1024_S8x4096x8x128) transposes_S8x4096x8x128_S8x8x4096x128_0_2_1_3)) (broadcastInDim S8x8x4096x4096 ![] bcast_S_S8x8x4096x4096 (Host.log (constant S_ .f32 0x40000000#32)))) (broadcastInDim S8x8x4096x4096 ![] bcast_S_S8x8x4096x4096 (id (constant S_ .f32 0xFF800000#32)))

/-- The maximum of each row of scores. -/
def MX (s : FVec Ideal S8x8x4096x4096 .f32) : FVec Ideal S8x8x4096 .f32 :=
  Host.reduce FloatOps.maximumf s (constant S_ .f32 0xFF800000#32) reducesTo_S8x8x4096x4096_S8x8x4096_d3 h_S_

/-- The maximum of each row of scores, and −∞. -/
def MB (x : FVec Ideal S8x8x4096 .f32) : FVec Ideal S8x8x4096 .f32 :=
  maximumf (broadcastInDim S8x8x4096 ![] bcast_S_S8x8x4096 (constant S_ .f32 0xFF800000#32)) x

/-- The scores, shifted by one number in each row. -/
def SH (s : FVec Ideal S8x8x4096x4096 .f32) (x : FVec Ideal S8x8x4096 .f32) : FVec Ideal S8x8x4096x4096 .f32 :=
  subf s (broadcastInDim S8x8x4096x4096 ![0, 1, 2, 3] bcast_S8x8x4096x1_S8x8x4096x4096_0_1_2_3 (broadcastInDim S8x8x4096x1 ![0, 1, 2] bcast_S8x8x4096_S8x8x4096x1_0_1_2 x))

/-- The exponentials of the scores, shifted by the maximum of their row. -/
def EX (s : FVec Ideal S8x8x4096x4096 .f32) : FVec Ideal S8x8x4096x4096 .f32 :=
  Host.exp (SH s (MB (MX s)))

/-- The softmax of a row of scores. -/
def PR (e : FVec Ideal S8x8x4096x4096 .f32) : FVec Ideal S8x8x4096x4096 .f32 :=
  Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd e (constant S_ .f32 0x00000000#32) reducesTo_S8x8x4096x4096_S8x8x4096_d3 h_S_)))

/-- The values, one row per key. -/
def VA (Z : FVec Ideal S8x8x512x512 .bf16) : FVec Ideal S8x8x4096x64 .f32 :=
  shapeCast _ (transpose S8x8x8x512x64 [0, 2, 1, 4, 3] (shapeCast _ (extf .f32 Z bitsLt_bf16_f32) shapeCasts_S8x8x512x512_S8x8x8x64x512) transposes_S8x8x8x64x512_S8x8x8x512x64_0_2_1_4_3) shapeCasts_S8x8x8x512x64_S8x8x4096x64

/-- The result from probabilities and values. -/
def OUT (p : FVec Ideal S8x8x4096x4096 .f32) (v : FVec Ideal S8x8x4096x64 .f32) : FVec Ideal S8x4096x512 .bf16 :=
  truncf .bf16 (shapeCast _ (transpose S8x4096x8x64 [0, 2, 1, 3] (Host.dotGeneral dot_S8x8x4096x4096_S8x8x4096x64_S8x8x4096x64_3_2_2_3_01_01 none p v) transposes_S8x8x4096x64_S8x4096x8x64_0_2_1_3) shapeCasts_S8x4096x8x64_S8x4096x512) bitsLt_bf16_f32

/-- The reference's result is these steps one after the other. -/
theorem res_eq (m : (ℓ : Loc nD τ sig) → Buf (Elt Ideal) ℓ) (c : Dev nD) :
    res_main_v33 (F := Ideal) m c = OUT (PR (EX (SC (m ((c.tc : Thread nD τ).loc main_arg0)) (m ((c.tc : Thread nD τ).loc main_arg1)))))
      (VA (m ((c.tc : Thread nD τ).loc main_arg2))) := by
  unfold res_main_v33
  rfl

/-- The comparison of a key's position with a query's. -/
theorem select_le {n : ℕ} (hn : n ≤ 4096) (j y : Fin n) (a b : EReal) :
    Scalar.select (IntOp.cmpi .sle (BitVec.ofNat 32 j) (BitVec.ofNat 32 y)) a b = if j ≤ y then a else b := by
  have hj := j.isLt
  have hy := y.isLt
  have : IntOp.cmpi .sle (BitVec.ofNat 32 j.val) (BitVec.ofNat 32 y.val) = if j ≤ y then 1#1 else 0#1 := by
    have h1 : (BitVec.ofNat 32 j.val).toInt = j.val := by
      rw [BitVec.toInt_eq_toNat_of_lt] <;> simp <;> omega
    have h2 : (BitVec.ofNat 32 y.val).toInt = y.val := by
      rw [BitVec.toInt_eq_toNat_of_lt] <;> simp <;> omega
    simp only [IntOp.cmpi, BitVec.sle, h1, h2, Fin.le_def]
    by_cases h : j.val ≤ y.val <;> simp [h]
  rw [this]
  split <;> simp [Scalar.select]

/-- The logarithm of the word of 2. -/
theorem log_two_word : Ideal.log (Ideal.ofBits .f32 1073741824#32) = (Real.log 2 : ℝ) := by
  have h : Ideal.ofBits .f32 1073741824#32 = ((2 : ℝ) : EReal) := by
    simp [Ideal.ofBits, Ideal.ieee]
    rw [← EReal.coe_mul]
    norm_num
  rw [h, Ideal.log_coe, if_neg (by norm_num)]

/-- A score of the reference. -/
theorem SC_apply (X : FVec Ideal S8x1024x4096 .bf16) (Y : FVec Ideal S8x4096x1024 .bf16) (b h : Fin 8) (q k : Fin 4096) :
    SC X Y (ix4 b h q k) = if k ≤ q then
      (∑ d : Fin 128, X (ix3 b ⟨128 * h + d, by omega⟩ q) * Y (ix3 b k ⟨128 * h + d, by omega⟩)) * (Real.log 2 : ℝ) else ⊥ := by
  simp only [mul_comm 128 h.val]
  pointwise [SC]
  rw [log_two_word, select_le le_rfl]
  rw [show id (constant (F := Ideal) S_ FTy.f32 4286578688#32) ix0 = (⊥ : EReal) from AttnIdeal.Value.negInf_word]

/-- The maximum of a row, for a four-dimensional array of any size. -/
theorem hostMax {n0 n1 n2 n3 : ℕ} (h : (⟨4, ![n0, n1, n2, n3]⟩ : Shape).ReducesTo [3] ⟨3, ![n0, n1, n2]⟩) (hu : 0 < S_.numel)
    (s : FVec Ideal ⟨4, ![n0, n1, n2, n3]⟩ .f32) (a : Fin n0) (b : Fin n1) (c : Fin n2) :
    Host.reduce FloatOps.maximumf s (constant S_ .f32 0xFF800000#32) h hu (ix3 a b c) =
      Finset.univ.sup fun j : Fin n3 => s (ix4 a b c j) := by
  pointwise
  exact AttnIdeal.Value.fold_max_eq_sup _

/-- The row maximum of the reference. -/
theorem MX_apply (s : FVec Ideal S8x8x4096x4096 .f32) (b h : Fin 8) (q : Fin 4096) :
    MX s (ix3 b h q) = Finset.univ.sup fun j : Fin 4096 => s (ix4 b h q j) :=
  by
  unfold MX
  exact hostMax reducesTo_S8x8x4096x4096_S8x8x4096_d3 h_S_ s b h q

/-- The maximum with −∞ changes nothing. -/
theorem MB_apply (x : FVec Ideal S8x8x4096 .f32) (b h : Fin 8) (q : Fin 4096) : MB x (ix3 b h q) = x (ix3 b h q) := by
  pointwise [MB]
  exact (congrArg (max · _) AttnIdeal.Value.negInf_word).trans (max_eq_right bot_le)

/-- A shifted score of the reference. -/
theorem SH_apply (s : FVec Ideal S8x8x4096x4096 .f32) (x : FVec Ideal S8x8x4096 .f32) (b h : Fin 8) (q k : Fin 4096) :
    SH s x (ix4 b h q k) = s (ix4 b h q k) - x (ix3 b h q) := by
  pointwise [SH]

/-- A shifted exponential of the reference. -/
theorem EX_apply (s : FVec Ideal S8x8x4096x4096 .f32) (b h : Fin 8) (q k : Fin 4096) :
    EX s (ix4 b h q k) = Ideal.exp (s (ix4 b h q k) - MX s (ix3 b h q)) := by
  have e : EX s (ix4 b h q k) = Ideal.exp (SH s (MB (MX s)) (ix4 b h q k)) := by
    unfold EX
    pointwise
  rw [e, SH_apply, MB_apply]

/-- A probability of the reference. -/
theorem PR_apply (s : FVec Ideal S8x8x4096x4096 .f32) (b h : Fin 8) (q k : Fin 4096) :
    PR s (ix4 b h q k) = Ideal.div (s (ix4 b h q k)) (∑ j : Fin 4096, s (ix4 b h q j)) := by
  pointwise [PR]

/-- A value of the reference. -/
theorem VA_apply (Z : FVec Ideal S8x8x512x512 .bf16) (b h : Fin 8) (k : Fin 4096) (d : Fin 64) :
    VA Z (ix4 b h k d) = Z (ix4 b ⟨k / 512, by omega⟩ ⟨64 * h + d, by omega⟩ ⟨k % 512, by omega⟩) := by
  simp only [mul_comm 64 h.val]
  pointwise [VA]

/-- A result of the reference. -/
theorem OUT_apply (p : FVec Ideal S8x8x4096x4096 .f32) (v : FVec Ideal S8x8x4096x64 .f32) (b h : Fin 8) (q : Fin 4096) (d : Fin 64) :
    OUT p v (ix3 b q ⟨64 * h + d, by omega⟩) = ∑ k : Fin 4096, p (ix4 b h q k) * v (ix4 b h k d) := by
  pointwise [OUT]

end Cert.AttnRefIdeal.Value
-- ==== Proof.AttnEq.lean ====
module
public import proofs.«01_k».proof.Proof.AttnRun
public import proofs.«01_k».proof.Proof.AttnRef
public import proofs.«01_k».proof.Proof.Gen.Pre_finite_scores

/-! The attention kernel's result is the reference's, entry by entry. -/

@[expose] public section
set_option maxRecDepth 16384
noncomputable section
namespace Cert.AttnIdeal.Value
open Idealize.ShloMosaic Idealize.ShloMosaic.TcCoe Idealize.SL.Sem Cert.AttnIdeal Cert.AttnIdeal.Gen
open Idealize.ShloMosaic.Pipeline (Dat)
open Cert.OnlineSoftmax

/-- A value whose absolute value is below +∞ is a real. -/
theorem real_of_abs_lt (x : EReal) (h : FloatOps.absf (F := Ideal) (φ := .bf16) x < Ideal.ofBits .bf16 32640#16) : ∃ r : ℝ, x = r := by
  have hw : Ideal.ofBits .bf16 32640#16 = (⊤ : EReal) := by
    simp [Ideal.ofBits, Ideal.ieee]
  rw [hw] at h
  induction x using EReal.rec with
  | bot => exact absurd (show max (⊥ : EReal) (-⊥) < ⊤ from h) (by simp)
  | top => exact absurd (show max (⊤ : EReal) (-⊤) < ⊤ from h) (by simp)
  | coe r => exact ⟨r, rfl⟩

/-- Both of two truth values are 1 when their conjunction is. -/
theorem both_of_andi (p q : Prop) [Decidable p] [Decidable q]
    (h : IntOp.andi (BitVec.ofBool (decide p)) (BitVec.ofBool (decide q)) = 1#1) : p ∧ q := by
  by_cases hp : p <;> by_cases hq : q <;> simp [hp, hq, IntOp.andi] at h ⊢

/-- The precondition makes every query and every key a real. -/
theorem reals_of_pre (X : FVec Ideal Cert.Pre_finite_scores.S8x1024x4096 .bf16) (Y : FVec Ideal Cert.Pre_finite_scores.S8x4096x1024 .bf16)
    (Z : FVec Ideal Cert.Pre_finite_scores.S8x8x512x512 .bf16) (h : Cert.Pre_finite_scores.fn (F := Ideal) X Y Z = fun _ => 1#1) :
    (∀ a b c, ∃ r : ℝ, X (ix3 a b c) = r) ∧ ∀ a b c, ∃ r : ℝ, Y (ix3 a b c) = r := by
  have key : ∀ (a : Fin 8) (b : Fin 1024) (c : Fin 4096), Cert.Pre_finite_scores.fn (F := Ideal) X Y Z (ix3 a b c) = 1#1 := fun a b c => congrFun h _
  unfold Cert.Pre_finite_scores.fn at key
  have both : ∀ (a : Fin 8) (b : Fin 1024) (c : Fin 4096),
      FloatOps.absf (F := Ideal) (φ := .bf16) (X (ix3 a b c)) < Ideal.ofBits .bf16 32640#16
      ∧ FloatOps.absf (F := Ideal) (φ := .bf16) (Y (ix3 a c b)) < Ideal.ofBits .bf16 32640#16 := by
    intro a b c
    have := key a b c
    revert this
    pointwise
    exact both_of_andi _ _
  exact ⟨fun a b c => real_of_abs_lt _ (both a b c).1, fun a b c => real_of_abs_lt _ (both a c b).2⟩

/-- The windows' index maps. -/
theorem idx : ∀ t : Fin cfg0.N, win0_0.index t = ![(grid0.coords t 0).val, (grid0.coords t 1).val, (grid0.coords t 2).val]
    ∧ win0_1.index t = ![(grid0.coords t 0).val, 0, (grid0.coords t 1).val]
    ∧ win0_2.index t = ![(grid0.coords t 0).val, 0, (grid0.coords t 1).val, 0]
    ∧ win0_3.index t = ![(grid0.coords t 0).val, (grid0.coords t 2).val, (grid0.coords t 1).val] :=
  (by decide +kernel : ∀ t : Fin grid0.N, _)

variable (m : (ℓ : Loc nD τ sig) → Buf (Elt Ideal) ℓ)

/-- The queries, keys and values of one device. -/
abbrev X (c : Dev nD) : FVec Ideal S8x1024x4096 .bf16 := m ((c : Thread nD τ).loc main_arg0)
abbrev Y (c : Dev nD) : FVec Ideal S8x4096x1024 .bf16 := m ((c : Thread nD τ).loc main_arg1)
abbrev Z (c : Dev nD) : FVec Ideal S8x8x512x512 .bf16 := m ((c : Thread nD τ).loc main_arg2)

/-- The reference's result of the kernel's arguments. -/
abbrev REF (c : Dev nD) : FVec Ideal S8x4096x512 .bf16 :=
  AttnRefIdeal.Value.OUT (AttnRefIdeal.Value.PR (AttnRefIdeal.Value.EX (AttnRefIdeal.Value.SC (X m c) (Y m c)))) (AttnRefIdeal.Value.VA (Z m c))

variable (c : Dev nD) (t : Fin cfg0.N)

/-- The batch entry, the pair of heads and the query tile of a grid point. -/
abbrev pb : Fin 8 := grid0.coords t 0
abbrev pp : Fin 4 := grid0.coords t 1
abbrev pq : Fin 8 := grid0.coords t 2

/-- The block of queries of a grid point. -/
theorem block0 (d : Fin 256) (y : Fin 512) :
    iblk m c 0 t (ix3 0 d y) = X m c (ix3 (pb t) ⟨256 * (pp t).val + d, by omega⟩ ⟨512 * (pq t).val + y, by omega⟩) := by
  blk_point [iblk, V, idx t]
  all_goals first | rfl | (simp only [pb, pp, pq]; omega)

/-- The block of keys of a grid point. -/
theorem block1 (k : Fin 4096) (d : Fin 256) :
    iblk m c 1 t (ix3 0 k d) = Y m c (ix3 (pb t) k ⟨256 * (pp t).val + d, by omega⟩) := by
  blk_point [iblk, V, idx t]
  all_goals first | rfl | (simp only [pb, pp, pq]; omega)

/-- The block of values of a grid point. -/
theorem block2 (n : Fin 8) (d : Fin 128) (k : Fin 512) :
    iblk m c 2 t (ix4 0 n d k) = Z m c (ix4 (pb t) n ⟨128 * (pp t).val + d, by omega⟩ k) := by
  blk_point [iblk, V, idx t]
  all_goals first | rfl | (simp only [pb, pp, pq]; omega)

/-- The place of an output block in the result. -/
theorem place (y : Fin 512) (d : Fin 128) :
    (win0_3.blk t).view.emb (ix3 0 y d) = ix3 (pb t) ⟨512 * (pq t).val + y, by omega⟩ ⟨128 * (pp t).val + d, by omega⟩ := by
  blk_ext [idx t]
  all_goals first | rfl | (simp only [pb, pp, pq]; omega)

/-- The head of the array that head `e` of a grid point's pair is. -/
abbrev head (e : Fin 2) : Fin 8 := ⟨2 * (pp t).val + e, by omega⟩
/-- The query's position in the sequence. -/
abbrev qpos (y : Fin 512) : Fin 4096 := ⟨512 * (pq t).val + y, by omega⟩

/-- The kernel's score in base 2 times log 2 is the reference's. -/
theorem score_eq (e : Fin 2) (y : Fin 512) (k : Fin 4096) :
    score (iblk m c 0 t) (iblk m c 1 t) e (pq t) y k * (Real.log 2 : ℝ) =
      AttnRefIdeal.Value.SC (X m c) (Y m c) (ix4 (pb t) (head t e) (qpos t y) k) := by
  rw [AttnRefIdeal.Value.SC_apply, score]
  by_cases hk : k ≤ qpos t y
  · rw [dif_pos ⟨k.isLt, Fin.le_def.1 hk⟩, if_pos hk]
    congr 1
    refine Finset.sum_congr rfl fun d _ => ?_
    rw [block0, block1, mul_comm]
    congr 3 <;> (apply Fin.ext; simp only []; omega)
  · rw [dif_neg fun h => hk (Fin.le_def.2 h.2), if_neg hk, EReal.bot_mul_coe_of_pos (Real.log_pos (by norm_num))]

/-- The kernel's values are the reference's. -/
theorem value_eq (e : Fin 2) (d : Fin 64) (k : Fin 4096) :
    value (iblk m c 2 t) e d k = AttnRefIdeal.Value.VA (Z m c) (ix4 (pb t) (head t e) k d) := by
  rw [AttnRefIdeal.Value.VA_apply, value, dif_pos k.isLt, block2]
  congr 2
  apply Fin.ext; simp only []; omega

section Real
variable (X : FVec Ideal S8x1024x4096 .bf16) (Y : FVec Ideal S8x4096x1024 .bf16)
  (hX : ∀ a b d, ∃ r : ℝ, X (ix3 a b d) = r) (hY : ∀ a b d, ∃ r : ℝ, Y (ix3 a b d) = r)
include hX hY

/-- A score at or before the query is a real. -/
theorem SC_real (b h : Fin 8) (q k : Fin 4096) (hk : k ≤ q) : ∃ r : ℝ, AttnRefIdeal.Value.SC X Y (ix4 b h q k) = r := by
  choose f hf using hX
  choose g hg using hY
  rw [AttnRefIdeal.Value.SC_apply, if_pos hk]
  simp only [hf, hg, ← EReal.coe_mul, ← coe_sum]
  exact ⟨_, rfl⟩

/-- No score is +∞. -/
theorem SC_ne_top (b h : Fin 8) (q k : Fin 4096) : Score (AttnRefIdeal.Value.SC X Y (ix4 b h q k)) := by
  by_cases hk : k ≤ q
  · obtain ⟨r, hr⟩ := SC_real X Y hX hY b h q k hk
    rw [hr]; exact EReal.coe_ne_top r
  · rw [AttnRefIdeal.Value.SC_apply, if_neg hk]; exact bot_ne_top

/-- The first score of every row is a number. -/
theorem SC_ne_bot (b h : Fin 8) (q : Fin 4096) : AttnRefIdeal.Value.SC X Y (ix4 b h q 0) ≠ ⊥ := by
  obtain ⟨r, hr⟩ := SC_real X Y hX hY b h q 0 (Fin.zero_le q)
  rw [hr]; exact EReal.coe_ne_bot r

end Real

/-- One entry of an output block is the reference's. -/
theorem point (hX : ∀ a b d, ∃ r : ℝ, X m c (ix3 a b d) = r) (hY : ∀ a b d, ∃ r : ℝ, Y m c (ix3 a b d) = r) (e : Fin 2) (y : Fin 512) (d : Fin 64) :
    out0_A_3 c (grid0.coords t) (ms0_0 t) (hs0_0 t) (ms0_1 t) (hs0_1 t) (ms0_2 t) (hs0_2 t) (ms0_3 t) (hs0_3 t) (iblk m c 0 t) (iblk m c 1 t) (iblk m c 2 t)
      (ix3 0 y ⟨64 * e + d, by omega⟩) = REF m c (ix3 (pb t) (qpos t y) ⟨64 * (head t e).val + d, by omega⟩) := by
  have hx0 : ∀ z : S1x256x512.Idx, ∃ r : ℝ, iblk m c 0 t z = Real.toEReal r := by
    intro z
    idx_vars z
    obtain ⟨r, hr⟩ := hX (pb t) ⟨256 * (pp t).val + z1, by omega⟩ ⟨512 * (pq t).val + z2, by omega⟩
    exact ⟨r, (Subsingleton.elim z0 0 ▸ (block0 m c t z1 z2)).trans hr⟩
  have hx1 : ∀ z : S1x4096x256.Idx, ∃ r : ℝ, iblk m c 1 t z = Real.toEReal r := by
    intro z
    idx_vars z
    obtain ⟨r, hr⟩ := hY (pb t) z1 ⟨256 * (pp t).val + z2, by omega⟩
    exact ⟨r, (Subsingleton.elim z0 0 ▸ (block1 m c t z1 z2)).trans hr⟩
  obtain ⟨μ, hμ⟩ := sup_real (fun j : Fin 4096 => AttnRefIdeal.Value.SC (X m c) (Y m c) (ix4 (pb t) (head t e) (qpos t y) j))
    (fun j => SC_ne_top _ _ hX hY _ _ _ j) 0 (SC_ne_bot _ _ hX hY _ _ _)
  rw [out_value _ _ _ _ _ _ _ _ _ _ _ _ _ hx0 hx1 e y d μ]
  refine Eq.trans ?_ (AttnRefIdeal.Value.OUT_apply _ _ (pb t) (head t e) (qpos t y) d).symm
  refine Finset.sum_congr rfl fun k _ => ?_
  simp only [AttnRefIdeal.Value.PR_apply, AttnRefIdeal.Value.EX_apply, AttnRefIdeal.Value.MX_apply, hμ]
  rw [← value_eq]
  simp only [← score_eq]

/-- The kernel's result array is the reference's. -/
theorem final (hX : ∀ a b d, ∃ r : ℝ, X m c (ix3 a b d) = r) (hY : ∀ a b d, ∃ r : ℝ, Y m c (ix3 a b d) = r) :
    (dats m 0 c).arrAt 3 cfg0.N = REF m c := by
  refine (dats m 0 c).arrAt_eq_of_covers 3 _ (by decide +kernel) fun t _ y => ?_
  blk_simp
  rw [after0_3]
  unfold outsAt0
  idx_vars y
  have h0 : y0 = 0 := Subsingleton.elim _ _
  subst h0
  have hy : y2 = ⟨64 * (⟨y2.val / 64, by omega⟩ : Fin 2).val + (⟨y2.val % 64, by omega⟩ : Fin 64).val, by simp only []; omega⟩ := by
    apply Fin.ext; simp only []; omega
  refine Eq.trans ?_ ((point m c t hX hY ⟨y2.val / 64, by omega⟩ y1 ⟨y2.val % 64, by omega⟩).trans ?_)
  · exact congrArg _ (congrArg (fun z => ix3 0 y1 z) hy)
  · refine congrArg (REF m c) ?_
    rw [place]
    congr 1
    apply Fin.ext; simp only []; omega

end Cert.AttnIdeal.Value
-- ==== Proof.AttnClaims.lean ====
module
public import proofs.«01_k».proof.Defs
public import proofs.«01_k».proof.Proof.AttnEq
public import proofs.«01_k».proof.Proof.Gen.Attn.Frame

/-! The claims about the attention call. -/

@[expose] public section
noncomputable section
namespace Cert.Proof.AttnClaims
open Idealize.ShloMosaic Idealize.SL.Sem

/-- The kernel, over words, runs to its end, keeps its arguments and leaves every counter at zero. -/
theorem frame_p : Cert.quiescent_Attn := fun m ρ _ => Cert.Attn.Gen.frame m ρ

/-- The same of the kernel over the extended reals. -/
theorem frame_pi : Cert.quiescent_AttnIdeal := fun m ρ _ => Cert.AttnIdeal.Gen.frame m ρ

/-- The same where the precondition holds. -/
theorem frame_pi_pre : Cert.quiescent_AttnIdeal_pre_finite_scores := fun m ρ _ => Cert.AttnIdeal.Gen.frame m ρ

/-- The same of the reference, which has no counters. -/
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The same where the precondition holds. -/
theorem frame_ri_pre : Cert.quiescent_AttnRefIdeal_pre_finite_scores := fun m ρ _ => frame_ri m ρ trivial

/-- The kernel's result is the reference's: causal softmax attention of the queries, keys and values. -/
theorem algebraic : Cert.algebraic_AttnIdeal_AttnRefIdeal_pre_finite_scores := by
  intro m ρ m' ρ' hpre hagree
  refine ⟨_, Cert.AttnIdeal.Value.run_blocks (F := Ideal) m ρ, ?_⟩
  refine (θ_run Cert.AttnRefIdeal.defs _ _).mono (fun _ h c => ⟨(h c).1.trans ?_, (h c).2⟩)
    (Cert.AttnRefIdeal.Value.run (F := Ideal) m' ρ')
  have hr := Cert.AttnIdeal.Value.reals_of_pre _ _ _ (hpre c)
  rw [Cert.AttnIdeal.Value.final m c hr.1 hr.2, Cert.AttnRefIdeal.Value.res_eq, (hagree c).1, (hagree c).2.1, (hagree c).2.2]

end Cert.Proof.AttnClaims
-- ==== Proof.OutSpec.lean ====
module
public import Idealize.ShloMosaic.Lib.Pointwise

/-! The output half of the layer for one token, as plain mathematics over the extended reals. -/

@[expose] public section
noncomputable section
namespace Cert.OutSpec
open Idealize.ShloMosaic

/-- The weights of the output half of the layer. -/
structure Weights where
  wo : Fin 1024 → Fin 1024 → EReal
  gm : Fin 1024 → EReal
  gf : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  gp : Fin 1024 → EReal
  wpp : Fin 256 → Fin 1024 → EReal
  ge : Fin 1024 → EReal
  wpg : Fin 1024 → Fin 1024 → EReal

/-- What one token brings: the layer's input, the two mixers' outputs, its per-layer embedding. -/
structure Token where
  x : Fin 1024 → EReal
  a : Fin 512 → EReal
  c : Fin 512 → EReal
  p : Fin 256 → EReal

/-- The root-mean-square normalization of a row, scaled. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The logistic function. -/
def sigmoid (x : EReal) : EReal := Ideal.div 1 (1 + Ideal.exp (-x))

/-- The tanh form of the gelu. -/
def gelu (g : EReal) : EReal :=
  g * (Ideal.ofBits .f32 0x3F000000#32 * (1
    + Ideal.tanh (Ideal.ofBits .f32 0x3F4C422A#32 * (g + Ideal.ofBits .f32 0x3D372713#32 * (g * g * g)))))

variable (W : Weights) (T : Token)

/-- The projected mixers' outputs. -/
def mix (j : Fin 1024) : EReal :=
  ∑ k : Fin 512, T.a k * W.wo ⟨k, by omega⟩ j + ∑ k : Fin 512, T.c k * W.wo ⟨512 + k, by omega⟩ j
/-- The residual stream after the mixers. -/
def h1 (j : Fin 1024) : EReal := T.x j + rms (mix W T) W.gm j
/-- The input of the feed-forward. -/
def hn : Fin 1024 → EReal := rms (h1 W T) W.gf
/-- The gate before the convolution. -/
def gate (f : Fin 2816) : EReal := ∑ k, hn W T k * W.wg k f
/-- The up projection. -/
def up (f : Fin 2816) : EReal := ∑ k, hn W T k * W.wu k f
/-- The convolution over this token's gate and the two before it (`g1` the last, `g2` the one before). -/
def conv (g2 g1 : Fin 2816 → EReal) (f : Fin 2816) : EReal :=
  W.cw 0 f * g2 f + W.cw 1 f * g1 f + W.cw 2 f * gate W T f + W.cb f
/-- The feed-forward's output. -/
def ffn (g2 g1 : Fin 2816 → EReal) (j : Fin 1024) : EReal := ∑ f, gelu (conv W T g2 g1 f) * up W T f * W.wd f j
/-- The residual stream after the feed-forward. -/
def h2 (g2 g1 : Fin 2816 → EReal) (j : Fin 1024) : EReal := h1 W T j + rms (ffn W T g2 g1) W.gp j
/-- The projected per-layer embedding. -/
def emb (j : Fin 1024) : EReal := ∑ k, T.p k * W.wpp k j
/-- The layer's output. -/
def out (g2 g1 : Fin 2816 → EReal) (j : Fin 1024) : EReal :=
  h2 W T g2 g1 j + sigmoid (∑ k, h2 W T g2 g1 k * W.wpg k j) * rms (emb W T) W.ge j

/-- The gate row of the token `k` places before token `s` of a sequence; zeros before its beginning. -/
def gateBefore (T : Fin 4096 → Token) (s : Fin 4096) (k : ℕ) (f : Fin 2816) : EReal :=
  if k ≤ s.val then gate W (T ⟨s.val - k, by omega⟩) f else 0

/-- The layer's output for token `s` of a sequence. -/
def layer (T : Fin 4096 → Token) (s : Fin 4096) : Fin 1024 → EReal :=
  out W (T s) (gateBefore W T s 2) (gateBefore W T s 1)

end Cert.OutSpec
-- ==== Proof.OutBlock.lean ====
module
public import proofs.«01_k».proof.Proof.Gen.OutIdeal.Value
public import proofs.«01_k».proof.Proof.OutSpec
public import Idealize.ShloMosaic.Lib.Pointwise
public import Idealize.ShloMosaic.Lib.Pipeline.ValueKit

/-! What the kernel of the output half of the layer computes of one block of tokens: for each token, the plain mathematics. -/

@[expose] public section
set_option maxRecDepth 16384
noncomputable section
namespace Cert.OutIdeal.Value
open Idealize.ShloMosaic Idealize.ShloMosaic.TcCoe Idealize.SL.Sem Cert.OutIdeal Cert.OutIdeal.Gen
open Cert.OutSpec

/-- The blocks the kernel reads at one grid point. -/
structure Blocks where
  x0 : Vec Ideal S1x256x1024 .f32
  x1 : Vec Ideal S1x256x512 .bf16
  x2 : Vec Ideal S1x256x512 .bf16
  x3 : Vec Ideal S1x256x256 .f32
  x4 : Vec Ideal S1024x1024 .bf16
  x5 : Vec Ideal S1x1024 .f32
  x6 : Vec Ideal S1x1024 .f32
  x7 : Vec Ideal S1024x2816 .bf16
  x8 : Vec Ideal S1024x2816 .bf16
  x9 : Vec Ideal S3x2816 .f32
  x10 : Vec Ideal S1x2816 .f32
  x11 : Vec Ideal S2816x1024 .bf16
  x12 : Vec Ideal S1x1024 .f32
  x13 : Vec Ideal S256x1024 .bf16
  x14 : Vec Ideal S1x1024 .f32
  x15 : Vec Ideal S1024x1024 .bf16

variable (B : Blocks)

/-- The weights among the blocks. -/
def Blocks.W : Weights where
  wo k j := B.x4 (ix2 k j)
  gm j := B.x5 (ix2 0 j)
  gf j := B.x6 (ix2 0 j)
  wg k j := B.x7 (ix2 k j)
  wu k j := B.x8 (ix2 k j)
  cw k j := B.x9 (ix2 k j)
  cb j := B.x10 (ix2 0 j)
  wd k j := B.x11 (ix2 k j)
  gp j := B.x12 (ix2 0 j)
  wpp k j := B.x13 (ix2 k j)
  ge j := B.x14 (ix2 0 j)
  wpg k j := B.x15 (ix2 k j)

/-- Token `y` of the block. -/
def Blocks.T (y : Fin 256) : Token where
  x j := B.x0 (ix3 0 y j)
  a j := B.x1 (ix3 0 y j)
  c j := B.x2 (ix3 0 y j)
  p j := B.x3 (ix3 0 y j)

/-- The residual stream after the mixers, as the kernel computes it for the block. -/
abbrev Blocks.H1 : FVec Ideal S256x1024 .f32 := k0_pay2 B.x1 B.x2 B.x4 B.x0 B.x5
/-- The gate of the block, as the kernel stores it in its scratch. -/
abbrev Blocks.G : FVec Ideal S256x2816 .f32 := k0_pay9 B.H1 (k0_pay3 B.x6) (k0_pay4 B.x1 B.x2 B.x4 B.x0 B.x5) B.x7
/-- The up projection of the block. -/
abbrev Blocks.U : FVec Ideal S256x2816 .f32 := k0_pay7 B.H1 (k0_pay3 B.x6) (k0_pay4 B.x1 B.x2 B.x4 B.x0 B.x5) B.x8
/-- The convolution of the block, from the gates shifted by two and by one. -/
abbrev Blocks.C (s2 s1 : Vec Ideal S256x2816 .f32) : FVec Ideal S256x2816 .f32 :=
  k0_pay10 B.H1 (k0_pay3 B.x6) (k0_pay4 B.x1 B.x2 B.x4 B.x0 B.x5) B.x7 B.x10
    (View.ld B.x9 (Rect.unit ![0, 0] ![1, 2816] inb_S3x2816_S1x2816_0_0)) s2
    (View.ld B.x9 (Rect.unit ![1, 0] ![1, 2816] inb_S3x2816_S1x2816_1_0)) s1
    (View.ld B.x9 (Rect.unit ![2, 0] ![1, 2816] inb_S3x2816_S1x2816_2_0))
/-- The residual stream after the feed-forward. -/
abbrev Blocks.H2 (s2 s1 : Vec Ideal S256x2816 .f32) : FVec Ideal S256x1024 .f32 := k0_pay12 B.H1 B.U (B.C s2 s1) B.x11 B.x12
/-- The block the kernel stores. -/
abbrev Blocks.O (s2 s1 : Vec Ideal S256x2816 .f32) : FVec Ideal S1x256x1024 .f32 :=
  k0_pay1 (B.H2 s2 s1) (k0_pay13 B.x3) B.x13 B.x14 B.x15

variable (y : Fin 256)

/-- The residual stream after the mixers. -/
theorem H1_apply (j : Fin 1024) : B.H1 (ix2 y j) = h1 B.W (B.T y) j := by
  pointwise [Blocks.H1, k0_pay2]
  rfl

/-- The input of the feed-forward. -/
theorem HN_apply (j : Fin 1024) :
    k0_pay5 B.H1 (k0_pay3 B.x6) (k0_pay4 B.x1 B.x2 B.x4 B.x0 B.x5) (ix2 y j) = hn B.W (B.T y) j := by
  pointwise [k0_pay5, k0_pay3, k0_pay4]
  simp only [H1_apply]
  rfl

/-- The gate. -/
theorem gate_apply (f : Fin 2816) :
    k0_pay6 B.H1 (k0_pay3 B.x6) (k0_pay4 B.x1 B.x2 B.x4 B.x0 B.x5) B.x7 (ix2 y f) = gate B.W (B.T y) f := by
  pointwise [k0_pay6]
  simp only [HN_apply]
  rfl

/-- The stored gate is the gate. -/
theorem G_apply (f : Fin 2816) : B.G (ix2 y f) = gate B.W (B.T y) f := by
  pointwise [k0_pay9]
  exact gate_apply B y f

/-- The up projection. -/
theorem U_apply (f : Fin 2816) : B.U (ix2 y f) = up B.W (B.T y) f := by
  pointwise [k0_pay7]
  simp only [HN_apply]
  rfl

variable (s2 s1 : Vec Ideal S256x2816 .f32)

/-- The convolution, from the shifted gates. -/
theorem C_apply (f : Fin 2816) :
    B.C s2 s1 (ix2 y f) = conv B.W (B.T y) (fun f => s2 (ix2 y f)) (fun f => s1 (ix2 y f)) f := by
  pointwise [k0_pay10]
  simp only [gate_apply]
  unfold conv
  rw [add_assoc, add_assoc, add_comm, ← add_assoc]
  rfl

/-- The residual stream after the feed-forward. -/
theorem H2_apply (j : Fin 1024) :
    B.H2 s2 s1 (ix2 y j) = h2 B.W (B.T y) (fun f => s2 (ix2 y f)) (fun f => s1 (ix2 y f)) j := by
  pointwise [k0_pay12]
  simp only [C_apply, U_apply, H1_apply]
  rfl

/-- The stored block holds the layer's output, from the shifted gates. -/
theorem O_apply (j : Fin 1024) :
    B.O s2 s1 (ix3 0 y j) = out B.W (B.T y) (fun f => s2 (ix2 y f)) (fun f => s1 (ix2 y f)) j := by
  pointwise [k0_pay1, k0_pay13]
  simp only [H2_apply]
  rfl

section
variable (x0 : Vec Ideal S1x256x1024 .f32) (x1 : Vec Ideal S1x256x512 .bf16) (x2 : Vec Ideal S1x256x512 .bf16) (x3 : Vec Ideal S1x256x256 .f32)
  (x4 : Vec Ideal S1024x1024 .bf16) (x5 : Vec Ideal S1x1024 .f32) (x6 : Vec Ideal S1x1024 .f32) (x7 : Vec Ideal S1024x2816 .bf16)
  (x8 : Vec Ideal S1024x2816 .bf16) (x9 : Vec Ideal S3x2816 .f32) (x10 : Vec Ideal S1x2816 .f32) (x11 : Vec Ideal S2816x1024 .bf16)
  (x12 : Vec Ideal S1x1024 .f32) (x13 : Vec Ideal S256x1024 .bf16) (x14 : Vec Ideal S1x1024 .f32) (x15 : Vec Ideal S1024x1024 .bf16)

/-- The stored gates, spelt out over the blocks. -/
theorem stored_gate (f : Fin 2816) :
    k0_pay9 (k0_pay2 x1 x2 x4 x0 x5) (k0_pay3 x6) (k0_pay4 x1 x2 x4 x0 x5) x7 (ix2 y f)
      = gate (Blocks.mk x0 x1 x2 x3 x4 x5 x6 x7 x8 x9 x10 x11 x12 x13 x14 x15).W ((Blocks.mk x0 x1 x2 x3 x4 x5 x6 x7 x8 x9 x10 x11 x12 x13 x14 x15).T y) f :=
  G_apply (Blocks.mk x0 x1 x2 x3 x4 x5 x6 x7 x8 x9 x10 x11 x12 x13 x14 x15) y f

/-- The stored block, spelt out over the blocks. -/
theorem stored_out (j : Fin 1024) :
    k0_pay1 (k0_pay12 (k0_pay2 x1 x2 x4 x0 x5) (k0_pay7 (k0_pay2 x1 x2 x4 x0 x5) (k0_pay3 x6) (k0_pay4 x1 x2 x4 x0 x5) x8)
        (k0_pay10 (k0_pay2 x1 x2 x4 x0 x5) (k0_pay3 x6) (k0_pay4 x1 x2 x4 x0 x5) x7 x10
          (View.ld x9 (Rect.unit ![0, 0] ![1, 2816] inb_S3x2816_S1x2816_0_0)) s2
          (View.ld x9 (Rect.unit ![1, 0] ![1, 2816] inb_S3x2816_S1x2816_1_0)) s1
          (View.ld x9 (Rect.unit ![2, 0] ![1, 2816] inb_S3x2816_S1x2816_2_0))) x11 x12) (k0_pay13 x3) x13 x14 x15 (ix3 0 y j)
      = out (Blocks.mk x0 x1 x2 x3 x4 x5 x6 x7 x8 x9 x10 x11 x12 x13 x14 x15).W ((Blocks.mk x0 x1 x2 x3 x4 x5 x6 x7 x8 x9 x10 x11 x12 x13 x14 x15).T y) (fun f => s2 (ix2 y f)) (fun f => s1 (ix2 y f)) j :=
  O_apply (Blocks.mk x0 x1 x2 x3 x4 x5 x6 x7 x8 x9 x10 x11 x12 x13 x14 x15) y s2 s1 j

end

end Cert.OutIdeal.Value
-- ==== Proof.OutRun.lean ====
module
public import proofs.«01_k».proof.Proof.OutBlock
public import Idealize.ShloMosaic.Lib.WritesUnit

/-! The scratch of the output half: the gates of the block, behind the last eight gates of the block before. -/

@[expose] public section
set_option maxRecDepth 16384
noncomputable section
namespace Cert.OutIdeal.Value
open Idealize.ShloMosaic Idealize.ShloMosaic.TcCoe Idealize.SL.Sem Cert.OutIdeal Cert.OutIdeal.Gen
open Cert.OutSpec

/-- The store of the block's gates into the scratch. -/
abbrev pieceG (G : Vec Ideal S256x2816 .f32) : View.Piece (Elt Ideal) S264x2816 .f32 :=
  ⟨Rect.unit ![8, 0] ![256, 2816] inb_S264x2816_S256x2816_8_0, G⟩
/-- The store of eight rows at the top of the scratch. -/
abbrev pieceH (Z : Vec Ideal S8x2816 .f32) : View.Piece (Elt Ideal) S264x2816 .f32 :=
  ⟨Rect.unit ![0, 0] ![8, 2816] inb_S264x2816_S8x2816_0_0, Z⟩

/-- The rows of the scratch the block's gates fill. -/
theorem mem_G (G : Vec Ideal S256x2816 .f32) (r : Fin 264) (f : Fin 2816) : ix2 r f ∈ (pieceG G).1.set ↔ 8 ≤ r.val := by
  rw [Rect.mem_set_unit, Fin.forall_fin_two]
  show (8 ≤ r.val ∧ r.val < 8 + 256) ∧ (0 ≤ f.val ∧ f.val < 0 + 2816) ↔ _
  omega

/-- The rows of the scratch the eight rows fill. -/
theorem mem_H (Z : Vec Ideal S8x2816 .f32) (r : Fin 264) (f : Fin 2816) : ix2 r f ∈ (pieceH Z).1.set ↔ r.val < 8 := by
  rw [Rect.mem_set_unit, Fin.forall_fin_two]
  show (0 ≤ r.val ∧ r.val < 0 + 8) ∧ (0 ≤ f.val ∧ f.val < 0 + 2816) ↔ _
  omega

/-- A row of the scratch, when the gates were stored last. -/
theorem canon_G (G : Vec Ideal S256x2816 .f32) (L : List (View.Piece (Elt Ideal) S264x2816 .f32)) (r : Fin 264) (f : Fin 2816) :
    View.canon (pieceG G :: L) (ix2 r f) = if h : 8 ≤ r.val then G (ix2 ⟨r.val - 8, by omega⟩ f) else View.canon L (ix2 r f) := by
  by_cases h : 8 ≤ r.val
  · rw [dif_pos h]
    refine Eq.trans (congrArg _ ?_) (View.canon_cons_emb (pieceG G).1 G L (ix2 ⟨r.val - 8, by omega⟩ f))
    funext a
    apply Fin.ext
    revert a
    rw [Fin.forall_fin_two]
    exact ⟨show r.val = 8 + 1 * (r.val - 8) by omega, show f.val = 0 + 1 * f.val by omega⟩
  · rw [dif_neg h]
    exact View.canon_cons_of_not_mem _ _ fun h' => h ((mem_G G r f).1 h')

/-- A row of the scratch, when the eight rows were stored last. -/
theorem canon_H (Z : Vec Ideal S8x2816 .f32) (L : List (View.Piece (Elt Ideal) S264x2816 .f32)) (r : Fin 264) (f : Fin 2816) :
    View.canon (pieceH Z :: L) (ix2 r f) = if h : r.val < 8 then Z (ix2 ⟨r.val, h⟩ f) else View.canon L (ix2 r f) := by
  by_cases h : r.val < 8
  · rw [dif_pos h]
    refine Eq.trans (congrArg _ ?_) (View.canon_cons_emb (pieceH Z).1 Z L (ix2 ⟨r.val, h⟩ f))
    funext a
    apply Fin.ext
    revert a
    rw [Fin.forall_fin_two]
    exact ⟨show r.val = 0 + 1 * r.val by omega, show f.val = 0 + 1 * f.val by omega⟩
  · rw [dif_neg h]
    exact View.canon_cons_of_not_mem _ _ fun h' => h ((mem_H Z r f).1 h')

variable {sg : RefSig} {κ : Kind} {sp : Space} (v : View sg κ sp S264x2816 .f32)

/-- What a row read from row `o` on is: a gate of the block, or one of the eight rows. -/
def shifted (G : Vec Ideal S256x2816 .f32) (Z : Fin 8 → Fin 2816 → EReal) (o : ℕ) (y : Fin 256) (f : Fin 2816) : EReal :=
  if h : 8 ≤ o + y.val then (if h' : o + y.val - 8 < 256 then G (ix2 ⟨o + y.val - 8, h'⟩ f) else 0) else Z ⟨o + y.val, by omega⟩ f

/-- The shifted gates a first block reads. -/
theorem read_first (G : Vec Ideal S256x2816 .f32) (Z : Vec Ideal S8x2816 .f32) {o : ℕ} (ho : o ≤ 8)
    (inb : ∀ a : Fin 2, (![o, 0] : Fin 2 → ℕ) a + (![256, 2816] : Fin 2 → ℕ) a ≤ S264x2816.size a) (y : Fin 256) (f : Fin 2816) :
    v.readCov [pieceG G, pieceH Z] (Rect.unit (s := S264x2816) ![o, 0] ![256, 2816] inb).toLoadRect (ix2 y f) = shifted G (fun r f => Z (ix2 r f)) o y f := by
  have hidx : (Rect.unit (s := S264x2816) ![o, 0] ![256, 2816] inb).toLoadRect.idx (ix2 y f) = ix2 (⟨o + y.val, by omega⟩ : Fin 264) f := by
    funext a
    apply Fin.ext
    revert a
    rw [Fin.forall_fin_two]
    exact ⟨show o + 1 * y.val = o + y.val by omega, show 0 + 1 * f.val = f.val by omega⟩
  refine Eq.trans (View.read_writes_apply_eq_canon v v.junk _ _ ?_) ?_
  · rw [hidx]
    by_cases h : 8 ≤ o + y.val
    · exact ⟨_, List.mem_cons_self, (mem_G G _ f).2 h⟩
    · exact ⟨_, List.mem_cons_of_mem _ List.mem_cons_self, (mem_H Z _ f).2 (Nat.lt_of_not_le h)⟩
  · rw [hidx, canon_G, canon_H, shifted]
    by_cases h : 8 ≤ o + y.val
    · rw [dif_pos h, dif_pos h, dif_pos (by omega)]
    · rw [dif_neg h, dif_neg h, dif_pos (by show o + y.val < 8; omega)]

/-- The shifted gates a later block reads, over what the scratch held. -/
theorem read_later (G : Vec Ideal S256x2816 .f32) (K : v.ty.Contents (Elt Ideal)) (S : Vec Ideal S264x2816 .f32) (hK : v.read (Elt Ideal) K = S) {o : ℕ} (ho : o ≤ 8)
    (inb : ∀ a : Fin 2, (![o, 0] : Fin 2 → ℕ) a + (![256, 2816] : Fin 2 → ℕ) a ≤ S264x2816.size a) (y : Fin 256) (f : Fin 2816) :
    View.ld (v.read (Elt Ideal) (v.writes (Elt Ideal) K [pieceG G])) (Rect.unit (s := S264x2816) ![o, 0] ![256, 2816] inb) (ix2 y f)
      = shifted G (fun r f => S (ix2 ⟨r.val, by omega⟩ f)) o y f := by
  have hidx : (Rect.unit (s := S264x2816) ![o, 0] ![256, 2816] inb).emb (ix2 y f) = ix2 (⟨o + y.val, by omega⟩ : Fin 264) f := by
    funext a
    apply Fin.ext
    revert a
    rw [Fin.forall_fin_two]
    exact ⟨show o + 1 * y.val = o + y.val by omega, show 0 + 1 * f.val = f.val by omega⟩
  refine Eq.trans (b := v.read (Elt Ideal) (v.writes (Elt Ideal) K [pieceG G]) ((Rect.unit (s := S264x2816) ![o, 0] ![256, 2816] inb).emb (ix2 y f))) rfl ?_
  rw [hidx, shifted]
  by_cases h : 8 ≤ o + y.val
  · rw [dif_pos h, dif_pos (by omega)]
    exact View.read_writes_cons_rows_of_mem v K _ _ _ _ (ix2 ⟨o + y.val - 8, by omega⟩ f) rfl (show o + y.val = 8 + (o + y.val - 8) by omega) rfl
  · rw [dif_neg h]
    refine Eq.trans (View.read_writes_cons_rows_of_not_mem (W := 256) v K _ _ _ _ rfl rfl (Or.inl (show o + y.val < 8 by omega))) ?_
    rw [View.writes_nil, hK]

/-- The same of the scratch itself, which held `S`. -/
theorem read_scratch (G : Vec Ideal S256x2816 .f32) (S : Vec Ideal S264x2816 .f32) (h : (Memref.whole cc0_scratch0).IsWhole) {o : ℕ} (ho : o ≤ 8)
    (inb : ∀ a : Fin 2, (![o, 0] : Fin 2 → ℕ) a + (![256, 2816] : Fin 2 → ℕ) a ≤ S264x2816.size a) (y : Fin 256) (f : Fin 2816) :
    View.ld ((View.whole cc0_scratch0).read (Elt Ideal) ((View.whole cc0_scratch0).writes (Elt Ideal) (h.unread S) [pieceG G]))
        (Rect.unit (s := S264x2816) ![o, 0] ![256, 2816] inb) (ix2 y f)
      = shifted G (fun r f => S (ix2 ⟨r.val, by omega⟩ f)) o y f :=
  read_later (View.whole cc0_scratch0) G (h.unread S) S (h.read_unread S) ho inb y f

/-- The eight rows kept for the next block are the block's last gates. -/
theorem kept (G : Vec Ideal S256x2816 .f32) (L L' : List (View.Piece (Elt Ideal) S264x2816 .f32)) (r : Fin 264) (hr : r.val < 8) (f : Fin 2816) :
    View.canon (pieceH (k0_pay11 (v.readCov (pieceG G :: L) (Rect.unit (s := S264x2816) ![256, 0] ![8, 2816] inb_S264x2816_S8x2816_256_0).toLoadRect)) :: L') (ix2 r f)
      = G (ix2 ⟨248 + r.val, by omega⟩ f) := by
  rw [canon_H, dif_pos hr]
  have hidx : (Rect.unit (s := S264x2816) ![256, 0] ![8, 2816] inb_S264x2816_S8x2816_256_0).toLoadRect.idx (ix2 (⟨r.val, hr⟩ : Fin 8) f) = ix2 (⟨256 + r.val, by omega⟩ : Fin 264) f := by
    funext a
    apply Fin.ext
    revert a
    rw [Fin.forall_fin_two]
    exact ⟨show 256 + 1 * r.val = 256 + r.val by omega, show 0 + 1 * f.val = f.val by omega⟩
  refine Eq.trans (b := v.readCov (pieceG G :: L) (Rect.unit (s := S264x2816) ![256, 0] ![8, 2816] inb_S264x2816_S8x2816_256_0).toLoadRect (ix2 ⟨r.val, hr⟩ f)) ?_ ?_
  · unfold k0_pay11
    pointwise
  refine Eq.trans (View.read_writes_apply_eq_canon v v.junk _ _ ?_) ?_
  · rw [hidx]
    exact ⟨_, List.mem_cons_self, (mem_G G _ f).2 (by show 8 ≤ 256 + r.val; omega)⟩
  · rw [hidx, canon_G, dif_pos (by show 8 ≤ 256 + r.val; omega)]
    congr 2
    apply Fin.ext
    show 256 + r.val - 8 = 248 + r.val
    omega

end Cert.OutIdeal.Value
-- ==== Proof.OutRef.lean ====
module
public import proofs.«01_k».proof.Proof.Gen.OutRefIdeal.Run
public import proofs.«01_k».proof.Proof.OutSpec
public import Idealize.ShloMosaic.Lib.Pointwise

/-! The reference of the output half of the layer, entry by entry: the plain mathematics of one token. -/

@[expose] public section
set_option maxRecDepth 16384
noncomputable section
namespace Cert.OutRefIdeal.Value
open Idealize.ShloMosaic Idealize.ShloMosaic.TcCoe Idealize.SL.Sem Cert.OutRefIdeal Cert.OutRefIdeal.Gen
open Cert.OutSpec

/-- A normalized and scaled array, as the reference computes it. -/
def RMS (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))

/-- An entry of a normalized array. -/
theorem RMS_apply (x : FVec Ideal S8x4096x1024 .f32) (g : FVec Ideal S1x1024 .f32) (b : Fin 8) (s : Fin 4096) (j : Fin 1024) :
    RMS x g (ix3 b s j) = rms (fun k => x (ix3 b s k)) (fun k => g (ix2 0 k)) j := by
  pointwise [RMS]
  rfl

/-- The arguments of the reference. -/
structure Args where
  x : FVec Ideal S8x4096x1024 .f32
  a : FVec Ideal S8x4096x512 .bf16
  c : FVec Ideal S8x4096x512 .bf16
  p : FVec Ideal S1x8x4096x256 .f32
  wo : FVec Ideal S1x1024x1024 .f32
  gm : FVec Ideal S1x1024 .f32
  gf : FVec Ideal S1x1024 .f32
  wg : FVec Ideal S1x1024x2816 .f32
  wu : FVec Ideal S1x1024x2816 .f32
  cw : FVec Ideal S1x3x2816 .f32
  cb : FVec Ideal S1x2816 .f32
  wd : FVec Ideal S1x2816x1024 .f32
  gp : FVec Ideal S1x1024 .f32
  wpp : FVec Ideal S1x256x1024 .f32
  ge : FVec Ideal S1x1024 .f32
  wpg : FVec Ideal S1x1024x1024 .f32

/-- The weights among the arguments. -/
def Args.W (A : Args) : Weights where
  wo k j := A.wo (ix3 0 k j)
  gm j := A.gm (ix2 0 j)
  gf j := A.gf (ix2 0 j)
  wg k j := A.wg (ix3 0 k j)
  wu k j := A.wu (ix3 0 k j)
  cw k j := A.cw (ix3 0 k j)
  cb j := A.cb (ix2 0 j)
  wd k j := A.wd (ix3 0 k j)
  gp j := A.gp (ix2 0 j)
  wpp k j := A.wpp (ix3 0 k j)
  ge j := A.ge (ix2 0 j)
  wpg k j := A.wpg (ix3 0 k j)

/-- Token `s` of sequence `b` among the arguments. -/
def Args.T (A : Args) (b : Fin 8) (s : Fin 4096) : Token where
  x j := A.x (ix3 b s j)
  a j := A.a (ix3 b s j)
  c j := A.c (ix3 b s j)
  p j := A.p (ix4 0 b s j)

/-- The arguments in a device's memory. -/
def args (V : Valuation τ sig (Elt Ideal)) : Args where
  x := V (Proc.devRef .tc main_arg0)
  a := V (Proc.devRef .tc main_arg1)
  c := V (Proc.devRef .tc main_arg2)
  p := V (Proc.devRef .tc main_arg3)
  wo := V (Proc.devRef .tc main_arg4)
  gm := V (Proc.devRef .tc main_arg5)
  gf := V (Proc.devRef .tc main_arg6)
  wg := V (Proc.devRef .tc main_arg7)
  wu := V (Proc.devRef .tc main_arg8)
  cw := V (Proc.devRef .tc main_arg9)
  cb := V (Proc.devRef .tc main_arg10)
  wd := V (Proc.devRef .tc main_arg11)
  gp := V (Proc.devRef .tc main_arg12)
  wpp := V (Proc.devRef .tc main_arg13)
  ge := V (Proc.devRef .tc main_arg14)
  wpg := V (Proc.devRef .tc main_arg15)

section
variable (V : Valuation τ sig (Elt Ideal)) (b : Fin 8) (s : Fin 4096)

/-- The projected mixers' outputs. -/
theorem v4_apply (j : Fin 1024) : res_main_v4 V (ix3 b s j) = mix (args V).W ((args V).T b s) j := by
  unfold res_main_v4
  pointwise
  rfl

/-- The residual stream after the mixers. -/
theorem v19_apply (j : Fin 1024) : res_main_v19 V (ix3 b s j) = h1 (args V).W ((args V).T b s) j := by
  refine Eq.trans (b := ((args V).x (ix3 b s j) : EReal) + RMS (res_main_v4 V) (args V).gm (ix3 b s j)) rfl ?_
  rw [RMS_apply]
  simp only [v4_apply]
  rfl

/-- The input of the feed-forward. -/
theorem v33_apply (j : Fin 1024) : res_main_v33 V (ix3 b s j) = hn (args V).W ((args V).T b s) j := by
  refine Eq.trans (b := RMS (res_main_v19 V) (args V).gf (ix3 b s j)) rfl ?_
  rw [RMS_apply]
  simp only [v19_apply]
  rfl

/-- The gate, two rows further because of the padding. -/
theorem v38_apply (s : Fin 4098) (f : Fin 2816) :
    res_main_v38 V (ix3 b s f) = if h : 2 ≤ s.val then gate (args V).W ((args V).T b ⟨s.val - 2, by omega⟩) f else 0 := by
  unfold res_main_v38
  pointwise
  simp only [v33_apply]
  by_cases h : 2 ≤ s.val
  · rw [dif_pos h, dif_pos ⟨h, by omega⟩]
    rfl
  · rw [dif_neg h, dif_neg fun h' => h h'.1]
    simp [FloatOps.sitofp]

/-- The convolution. -/
theorem v61_apply (f : Fin 2816) :
    res_main_v61 V (ix3 b s f) = conv (args V).W ((args V).T b s)
      (gateBefore (args V).W ((args V).T b) s 2) (gateBefore (args V).W ((args V).T b) s 1) f := by
  unfold res_main_v61 res_main_v36
  pointwise
  simp only [v38_apply]
  have e1 : (if h : 2 ≤ 1 + s.val then gate (args V).W ((args V).T b ⟨1 + s.val - 2, by omega⟩) f else 0)
      = gateBefore (args V).W ((args V).T b) s 1 f := by
    unfold gateBefore
    by_cases h : 1 ≤ s.val
    · rw [dif_pos (by omega), if_pos h]
      congr 3
      omega
    · rw [dif_neg (by omega), if_neg h]
  have e2 : (if h : 2 ≤ 2 + s.val then gate (args V).W ((args V).T b ⟨2 + s.val - 2, by omega⟩) f else 0)
      = gate (args V).W ((args V).T b s) f := by
    rw [dif_pos (by omega)]
    congr 3
    omega
  rw [e1, e2]
  rfl

/-- The feed-forward's output. -/
theorem v79_apply (j : Fin 1024) :
    res_main_v79 V (ix3 b s j) = ffn (args V).W ((args V).T b s)
      (gateBefore (args V).W ((args V).T b) s 2) (gateBefore (args V).W ((args V).T b) s 1) j := by
  unfold res_main_v79
  pointwise
  simp only [v61_apply, v33_apply]
  rfl

/-- The residual stream after the feed-forward. -/
theorem v94_apply (j : Fin 1024) :
    res_main_v94 V (ix3 b s j) = h2 (args V).W ((args V).T b s)
      (gateBefore (args V).W ((args V).T b) s 2) (gateBefore (args V).W ((args V).T b) s 1) j := by
  refine Eq.trans (b := h1 (args V).W ((args V).T b s) j + RMS (res_main_v79 V) (args V).gp (ix3 b s j)) ?_ ?_
  · rw [← v19_apply]; rfl
  · rw [RMS_apply]
    simp only [v79_apply]
    rfl

/-- The projected per-layer embedding. -/
theorem v97_apply (j : Fin 1024) : res_main_v97 V (ix3 b s j) = emb (args V).W ((args V).T b s) j := by
  unfold res_main_v97
  pointwise
  rfl

/-- The reference's result. -/
def OUT : FVec Ideal S8x4096x1024 .f32 :=
  addf (res_main_v94 V) (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (Host.dotGeneral (φ₁ := .f32) (φ₂ := .f32) dot_S8x4096x1024_S1024x1024_S8x4096x1024_2_0_01_1_n_n none (res_main_v94 V) (shapeCast _ (args V).wpg shapeCasts_S1x1024x1024_S1024x1024)))))) (RMS (res_main_v97 V) (args V).ge))

/-- The reference computes the layer of each token of each sequence. -/
theorem OUT_apply (j : Fin 1024) : OUT V (ix3 b s j) = layer (args V).W ((args V).T b) s j := by
  unfold OUT
  pointwise
  rw [RMS_apply]
  simp only [v94_apply, v97_apply]
  rfl

end
end Cert.OutRefIdeal.Value
-- ==== Proof.OutEq.lean ====
module
public import proofs.«01_k».proof.Proof.OutRun
public import proofs.«01_k».proof.Proof.OutRef

/-! What the blocks of a grid point of the output half's kernel hold, and what the kernel stores from them. -/

@[expose] public section
set_option maxRecDepth 16384
noncomputable section
namespace Cert.OutIdeal.Value
open Idealize.ShloMosaic Idealize.ShloMosaic.TcCoe Idealize.SL.Sem Cert.OutIdeal Cert.OutIdeal.Gen
open Idealize.ShloMosaic.Pipeline (Dat)
open Cert.OutSpec

/-- The index maps of the windows that move with the grid. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_16.index t = ![(grid0.coords t 0).val, (grid0.coords t 1).val, 0] :=
  (by decide +kernel : ∀ t : Fin grid0.N, _)

/-- The index maps of the weights, each one block. -/
theorem idxW : ∀ t : Fin cfg0.N,
    win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] :=
  (by decide +kernel : ∀ t : Fin grid0.N, _)

/-- A grid point, from its sequence and its tile. -/
theorem coords : ∀ t : Fin cfg0.N, t.val = 16 * (grid0.coords t 0).val + (grid0.coords t 1).val :=
  (by decide +kernel : ∀ t : Fin grid0.N, _)

variable (m : (ℓ : Loc nD τ sig) → Buf (Elt Ideal) ℓ) (c : Dev nD)

/-- The arguments of one device. -/
def A : OutRefIdeal.Value.Args where
  x := m ((c : Thread nD τ).loc main_arg0)
  a := m ((c : Thread nD τ).loc main_arg1)
  c := m ((c : Thread nD τ).loc main_arg2)
  p := m ((c : Thread nD τ).loc main_arg3)
  wo := m ((c : Thread nD τ).loc main_arg4)
  gm := m ((c : Thread nD τ).loc main_arg5)
  gf := m ((c : Thread nD τ).loc main_arg6)
  wg := m ((c : Thread nD τ).loc main_arg7)
  wu := m ((c : Thread nD τ).loc main_arg8)
  cw := m ((c : Thread nD τ).loc main_arg9)
  cb := m ((c : Thread nD τ).loc main_arg10)
  wd := m ((c : Thread nD τ).loc main_arg11)
  gp := m ((c : Thread nD τ).loc main_arg12)
  wpp := m ((c : Thread nD τ).loc main_arg13)
  ge := m ((c : Thread nD τ).loc main_arg14)
  wpg := m ((c : Thread nD τ).loc main_arg15)

variable (t : Fin cfg0.N)

/-- The blocks of a grid point. -/
def blocks : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

/-- The sequence and the tile of a grid point. -/
abbrev pb : Fin 8 := grid0.coords t 0
abbrev pi : Fin 16 := grid0.coords t 1
/-- The position of a block's token in its sequence. -/
abbrev pos (y : Fin 256) : Fin 4096 := ⟨256 * (pi t).val + y.val, by omega⟩

/-- The residual stream's block of a grid point. -/
theorem block0 (y : Fin 256) (j : Fin 1024) : iblk m c 0 t (ix3 0 y j) = (A m c).x (ix3 (pb t) (pos t y) j) := by
  blk_point [iblk, V, idx t]
  all_goals first | rfl | (simp only [pb, pi, pos]; omega)

/-- The attention's block of a grid point. -/
theorem block1 (y : Fin 256) (j : Fin 512) : iblk m c 1 t (ix3 0 y j) = (A m c).a (ix3 (pb t) (pos t y) j) := by
  blk_point [iblk, V, idx t]
  all_goals first | rfl | (simp only [pb, pi, pos]; omega)

/-- The convolution mixer's block of a grid point. -/
theorem block2 (y : Fin 256) (j : Fin 512) : iblk m c 2 t (ix3 0 y j) = (A m c).c (ix3 (pb t) (pos t y) j) := by
  blk_point [iblk, V, idx t]
  all_goals first | rfl | (simp only [pb, pi, pos]; omega)

/-- The embeddings' block of a grid point. -/
theorem block3 (y : Fin 256) (j : Fin 256) : iblk m c 3 t (ix3 0 y j) = (A m c).p (ix4 0 (pb t) (pos t y) j) := by
  have h : (win0_3.blk t).view.emb (ix3 0 y j) = ix3 (pb t) (pos t y) j := by
    blk_ext [idx t]
    all_goals first | rfl | (simp only [pb, pi, pos]; omega)
  refine (congrArg (V m c main_v0) h).trans ?_
  entry_read
  pointwise
  rfl

/-- The output projection, a block of its own. -/
theorem block4 (k : Fin 1024) (j : Fin 1024) : iblk m c 4 t (ix2 k j) = (A m c).wo (ix3 0 k j) := by
  refine (congrArg (V m c main_v2) (show (win0_4.blk t).view.emb (ix2 k j) = ix2 k j by blk_ext [idxW t])).trans ?_
  entry_read
  pointwise
  rfl

/-- The mixers' norm weights, a block of its own. -/
theorem block5 (j : Fin 1024) : iblk m c 5 t (ix2 0 j) = (A m c).gm (ix2 0 j) := by
  refine (congrArg (V m c main_v4) (show (win0_5.blk t).view.emb (ix2 0 j) = ix2 0 j by blk_ext [idxW t])).trans ?_
  entry_read
  pointwise
  rfl

/-- The feed-forward's norm weights, a block of its own. -/
theorem block6 (j : Fin 1024) : iblk m c 6 t (ix2 0 j) = (A m c).gf (ix2 0 j) := by
  refine (congrArg (V m c main_v6) (show (win0_6.blk t).view.emb (ix2 0 j) = ix2 0 j by blk_ext [idxW t])).trans ?_
  entry_read
  pointwise
  rfl

/-- The gate projection, a block of its own. -/
theorem block7 (k : Fin 1024) (j : Fin 2816) : iblk m c 7 t (ix2 k j) = (A m c).wg (ix3 0 k j) := by
  refine (congrArg (V m c main_v8) (show (win0_7.blk t).view.emb (ix2 k j) = ix2 k j by blk_ext [idxW t])).trans ?_
  entry_read
  pointwise
  rfl

/-- The up projection, a block of its own. -/
theorem block8 (k : Fin 1024) (j : Fin 2816) : iblk m c 8 t (ix2 k j) = (A m c).wu (ix3 0 k j) := by
  refine (congrArg (V m c main_v10) (show (win0_8.blk t).view.emb (ix2 k j) = ix2 k j by blk_ext [idxW t])).trans ?_
  entry_read
  pointwise
  rfl

/-- The convolution weights, a block of its own. -/
theorem block9 (k : Fin 3) (j : Fin 2816) : iblk m c 9 t (ix2 k j) = (A m c).cw (ix3 0 k j) := by
  refine (congrArg (V m c main_v11) (show (win0_9.blk t).view.emb (ix2 k j) = ix2 k j by blk_ext [idxW t])).trans ?_
  entry_read
  pointwise
  rfl

/-- The convolution bias, a block of its own. -/
theorem block10 (j : Fin 2816) : iblk m c 10 t (ix2 0 j) = (A m c).cb (ix2 0 j) := by
  refine (congrArg (V m c main_v13) (show (win0_10.blk t).view.emb (ix2 0 j) = ix2 0 j by blk_ext [idxW t])).trans ?_
  entry_read
  pointwise
  rfl

/-- The down projection, a block of its own. -/
theorem block11 (k : Fin 2816) (j : Fin 1024) : iblk m c 11 t (ix2 k j) = (A m c).wd (ix3 0 k j) := by
  refine (congrArg (V m c main_v15) (show (win0_11.blk t).view.emb (ix2 k j) = ix2 k j by blk_ext [idxW t])).trans ?_
  entry_read
  pointwise
  rfl

/-- The feed-forward output's norm weights, a block of its own. -/
theorem block12 (j : Fin 1024) : iblk m c 12 t (ix2 0 j) = (A m c).gp (ix2 0 j) := by
  refine (congrArg (V m c main_v17) (show (win0_12.blk t).view.emb (ix2 0 j) = ix2 0 j by blk_ext [idxW t])).trans ?_
  entry_read
  pointwise
  rfl

/-- The embeddings' projection, a block of its own. -/
theorem block13 (k : Fin 256) (j : Fin 1024) : iblk m c 13 t (ix2 k j) = (A m c).wpp (ix3 0 k j) := by
  refine (congrArg (V m c main_v19) (show (win0_13.blk t).view.emb (ix2 k j) = ix2 k j by blk_ext [idxW t])).trans ?_
  entry_read
  pointwise
  rfl

/-- The embeddings' norm weights, a block of its own. -/
theorem block14 (j : Fin 1024) : iblk m c 14 t (ix2 0 j) = (A m c).ge (ix2 0 j) := by
  refine (congrArg (V m c main_v21) (show (win0_14.blk t).view.emb (ix2 0 j) = ix2 0 j by blk_ext [idxW t])).trans ?_
  entry_read
  pointwise
  rfl

/-- The embeddings' gate projection, a block of its own. -/
theorem block15 (k : Fin 1024) (j : Fin 1024) : iblk m c 15 t (ix2 k j) = (A m c).wpg (ix3 0 k j) := by
  refine (congrArg (V m c main_v23) (show (win0_15.blk t).view.emb (ix2 k j) = ix2 k j by blk_ext [idxW t])).trans ?_
  entry_read
  pointwise
  rfl

/-- The weights among a grid point's blocks are the device's. -/
theorem W_eq : (blocks m c t).W = (A m c).W := by
  unfold Blocks.W OutRefIdeal.Value.Args.W blocks
  simp only [block4, block5, block6, block7, block8, block9, block10, block11, block12, block13, block14, block15]

/-- A token of a grid point's blocks is the device's at its position. -/
theorem T_eq (y : Fin 256) : (blocks m c t).T y = (A m c).T (pb t) (pos t y) := by
  unfold Blocks.T OutRefIdeal.Value.Args.T blocks
  simp only [block0, block1, block2, block3]

/-- The place of an output block in the result. -/
theorem place (y : Fin 256) (j : Fin 1024) : (win0_16.blk t).view.emb (ix3 0 y j) = ix3 (pb t) (pos t y) j := by
  blk_ext [idx t]
  all_goals first | rfl | (simp only [pb, pi, pos]; omega)

/-- The gates a grid point stores are those of its tokens. -/
theorem gate_eq (y : Fin 256) (f : Fin 2816) :
    k0_pay9 (k0_pay2 (iblk m c 1 t) (iblk m c 2 t) (iblk m c 4 t) (iblk m c 0 t) (iblk m c 5 t)) (k0_pay3 (iblk m c 6 t))
      (k0_pay4 (iblk m c 1 t) (iblk m c 2 t) (iblk m c 4 t) (iblk m c 0 t) (iblk m c 5 t)) (iblk m c 7 t) (ix2 y f)
      = gate (A m c).W ((A m c).T (pb t) (pos t y)) f := by
  refine (stored_gate y (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) f).trans ?_
  change gate (blocks m c t).W ((blocks m c t).T y) f = _
  rw [W_eq, T_eq]

/-- The block a grid point stores, from the shifted gates. -/
theorem out_eq (s2 s1 : Vec Ideal S256x2816 .f32) (y : Fin 256) (j : Fin 1024) :
    out (Blocks.mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).W ((Blocks.mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).T y)
        (fun f => s2 (ix2 y f)) (fun f => s1 (ix2 y f)) j
      = out (A m c).W ((A m c).T (pb t) (pos t y)) (fun f => s2 (ix2 y f)) (fun f => s1 (ix2 y f)) j := by
  change out (blocks m c t).W ((blocks m c t).T y) _ _ j = _
  rw [W_eq, T_eq]

/-- The gates shifted by `k`: those of the `k`-th token before, or none at the start of the sequence. -/
theorem shifted_eq (G : Vec Ideal S256x2816 .f32) (hG : ∀ y f, G (ix2 y f) = gate (A m c).W ((A m c).T (pb t) (pos t y)) f)
    (Z : Fin 8 → Fin 2816 → EReal) (k o : ℕ) (ho : o + k = 8) (hk : k ≤ 2)
    (hZ : ∀ (r : Fin 8) f, Z r f = gateBefore (A m c).W ((A m c).T (pb t)) (pos t ⟨r.val, by omega⟩) 8 f) (y : Fin 256) (f : Fin 2816) :
    shifted G Z o y f = gateBefore (A m c).W ((A m c).T (pb t)) (pos t y) k f := by
  unfold shifted
  by_cases h : 8 ≤ o + y.val
  · rw [dif_pos h, dif_pos (by omega), hG, gateBefore, if_pos (by simp only [pos]; omega)]
    refine congrArg (fun s => gate (A m c).W ((A m c).T (pb t) s) f) (Fin.ext ?_)
    show 256 * (pi t).val + (o + y.val - 8) = 256 * (pi t).val + y.val - k
    omega
  · rw [dif_neg h, hZ, gateBefore, gateBefore]
    by_cases h0 : k ≤ (pos t y).val
    · rw [if_pos h0, if_pos (by simp only [pos] at h0 ⊢; omega)]
      refine congrArg (fun s => gate (A m c).W ((A m c).T (pb t) s) f) (Fin.ext ?_)
      show 256 * (pi t).val + (o + y.val) - 8 = 256 * (pi t).val + y.val - k
      omega
    · rw [if_neg h0, if_neg (by simp only [pos] at h0 ⊢; omega)]

end Cert.OutIdeal.Value
-- ==== Proof.OutPoint.lean ====
module
public import proofs.«01_k».proof.Proof.OutEq

/-! The result of the output half's kernel is the reference's, entry by entry. -/

@[expose] public section
set_option maxRecDepth 16384
noncomputable section
namespace Cert.OutIdeal.Value
open Idealize.ShloMosaic Idealize.ShloMosaic.TcCoe Idealize.SL.Sem Cert.OutIdeal Cert.OutIdeal.Gen
open Idealize.ShloMosaic.Pipeline (Dat)
open Cert.OutSpec

variable (m : (ℓ : Loc nD τ sig) → Buf (Elt Ideal) ℓ) (c : Dev nD) (t : Fin cfg0.N)

/-- What every grid point leaves at the top of the scratch: the gates of the block's last eight tokens. -/
theorem scratch (r : Fin 264) (hr : r.val < 8) (f : Fin 2816) :
    (outsAt0 m c t.val t.isLt).2 (ix2 r f) = gate (A m c).W ((A m c).T (pb t) (pos t ⟨248 + r.val, by omega⟩)) f := by
  by_cases h0 : t.val % 16 = 0
  · rw [outsAt0_A m c t h0]
    frame_out
    exact (kept _ _ _ _ r hr f).trans (gate_eq m c t _ f)
  · rw [outsAt0_B m c t h0]
    frame_out
    exact (kept _ _ _ _ r hr f).trans (gate_eq m c t _ f)

/-- The zeros before a sequence's first block. -/
theorem zeros (r : Fin 8) (f : Fin 2816) : k0_pay8 (F := Ideal) (ix2 r f) = (0 : EReal) := by
  pointwise [k0_pay8]

/-- Before the first block of a sequence there are no gates. -/
theorem before_first (h0 : t.val % 16 = 0) (r : Fin 8) (f : Fin 2816) :
    k0_pay8 (F := Ideal) (ix2 r f) = gateBefore (A m c).W ((A m c).T (pb t)) (pos t ⟨r.val, by omega⟩) 8 f := by
  have hc := coords t
  have h1 := (pi t).isLt
  simp only [pi] at h1
  rw [zeros, gateBefore, if_neg (by simp only [pos, pi]; omega)]

/-- Before a later block the scratch holds the gates of the eight tokens before it. -/
theorem before_later (h0 : ¬t.val % 16 = 0) (r : Fin 8) (f : Fin 2816) :
    (outsAt0 m c (t.val - 1) (by omega)).2 (ix2 ⟨r.val, by omega⟩ f)
      = gateBefore (A m c).W ((A m c).T (pb t)) (pos t ⟨r.val, by omega⟩) 8 f := by
  have hc := coords t
  have hc' := coords ⟨t.val - 1, by omega⟩
  have h0 := (pi ⟨t.val - 1, by omega⟩).isLt
  have h1 := (pi t).isLt
  simp only [pi] at h0 h1 hc hc'
  have hb : pb ⟨t.val - 1, by omega⟩ = pb t := by
    apply Fin.ext; simp only [pb]; omega
  refine (scratch m c ⟨t.val - 1, by omega⟩ ⟨r.val, by omega⟩ r.isLt f).trans ?_
  rw [gateBefore, if_pos (by simp only [pos, pi]; omega), hb]
  refine congrArg (fun s => gate (A m c).W ((A m c).T (pb t) s) f) (Fin.ext ?_)
  show 256 * (pi ⟨t.val - 1, by omega⟩).val + (248 + r.val) = 256 * (pi t).val + r.val - 8
  simp only [pi]
  omega

/-- One entry of an output block is the layer's. -/
theorem point (y : Fin 256) (j : Fin 1024) :
    (outsAt0 m c t.val t.isLt).1 (ix3 0 y j) = layer (A m c).W ((A m c).T (pb t)) (pos t y) j := by
  by_cases h0 : t.val % 16 = 0
  · rw [outsAt0_A m c t h0]
    frame_out
    refine (stored_out y _ _ _ _ _ _ _ _ _ _ _ _ _ _ _ _ _ _ j).trans ((out_eq m c t _ _ y j).trans ?_)
    unfold layer
    refine congrArg₂ (fun g2 g1 => out (A m c).W ((A m c).T (pb t) (pos t y)) g2 g1 j) (funext fun f => ?_) (funext fun f => ?_)
    · exact (read_first _ _ _ (by omega) _ y f).trans (shifted_eq m c t _ (gate_eq m c t) _ 2 6 rfl (by omega) (before_first m c t h0) y f)
    · exact (read_first _ _ _ (by omega) _ y f).trans (shifted_eq m c t _ (gate_eq m c t) _ 1 7 rfl (by omega) (before_first m c t h0) y f)
  · have hb := before_later m c t h0
    rw [outsAt0_B m c t h0]
    generalize outsAt0 m c (t.val - 1) _ = q at *
    frame_out
    refine (stored_out y _ _ _ _ _ _ _ _ _ _ _ _ _ _ _ _ _ _ j).trans ((out_eq m c t _ _ y j).trans ?_)
    unfold layer
    refine congrArg₂ (fun g2 g1 => out (A m c).W ((A m c).T (pb t) (pos t y)) g2 g1 j) (funext fun f => ?_) (funext fun f => ?_)
    · exact (read_scratch _ q.2 _ (by omega) _ y f).trans
        (shifted_eq m c t _ (gate_eq m c t) _ 2 6 rfl (by omega) hb y f)
    · exact (read_scratch _ q.2 _ (by omega) _ y f).trans
        (shifted_eq m c t _ (gate_eq m c t) _ 1 7 rfl (by omega) hb y f)

/-- The layer of every token of every sequence. -/
def REF : FVec Ideal S8x4096x1024 .f32 := fun i => layer (A m c).W ((A m c).T (i 0)) (i 1) (i 2)

/-- The kernel's result array is the layer of the arguments. -/
theorem final : (dats m 0 c).arrAt 16 cfg0.N = REF m c := by
  refine (dats m 0 c).arrAt_eq_of_covers 16 _ (by decide +kernel) fun t _ y => ?_
  blk_simp
  rw [after0_16]
  idx_vars y
  have h0 : y0 = 0 := Subsingleton.elim _ _
  subst h0
  refine (point m c t y1 y2).trans ?_
  refine Eq.trans ?_ (congrArg (REF m c) (place t y1 y2)).symm
  rfl

end Cert.OutIdeal.Value
-- ==== Proof.OutClaims.lean ====
module
public import proofs.«01_k».proof.Defs
public import proofs.«01_k».proof.Proof.Gen.Out.Frame
public import proofs.«01_k».proof.Proof.OutPoint

/-! The claims about the output half of the layer. -/

@[expose] public section
noncomputable section
namespace Cert.Proof.OutClaims
open Idealize.ShloMosaic Idealize.SL.Sem

/-- The kernel, over words, runs to its end, keeps its arguments and leaves every counter at zero. -/
theorem frame_p : Cert.quiescent_Out := fun m ρ _ => Cert.Out.Gen.frame m ρ

/-- The same of the kernel over the extended reals. -/
theorem frame_pi : Cert.quiescent_OutIdeal := fun m ρ _ => Cert.OutIdeal.Gen.frame m ρ

/-- The same of the reference, which has no counters. -/
theorem frame_ri : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

/-- The kernel's result is the reference's: the output half of the layer, for every token. -/
theorem algebraic : Cert.algebraic_OutIdeal_OutRefIdeal := by
  intro m ρ m' ρ' _ hagree
  refine ⟨_, Cert.OutIdeal.Value.run_blocks (F := Ideal) m ρ, ?_⟩
  refine (θ_run Cert.OutRefIdeal.defs _ _).mono (fun _ h c => ⟨(h c).1.trans ?_, (h c).2⟩)
    (Cert.OutRefIdeal.Value.run (F := Ideal) m' ρ')
  have hA : Cert.OutRefIdeal.Value.args (StableHlo.launchContents m' c) = Cert.OutIdeal.Value.A m c := by
    unfold Cert.OutRefIdeal.Value.args Cert.OutIdeal.Value.A
    simp only [Cert.OutRefIdeal.Value.Args.mk.injEq]
    exact hagree c
  rw [Cert.OutIdeal.Value.final]
  change Cert.OutRefIdeal.Value.OUT (StableHlo.launchContents m' c) = _
  funext i
  obtain ⟨b, s, j, rfl⟩ : ∃ (b : Fin 8) (s : Fin 4096) (j : Fin 1024), i = ix3 b s j := ⟨i 0, i 1, i 2, eq_ix3 i⟩
  rw [Cert.OutRefIdeal.Value.OUT_apply, hA]
  rfl

end Cert.Proof.OutClaims
-- ==== Proof.InSpec.lean ====
module
public import Idealize.ShloMosaic.Lib.Pointwise

/-! The inputs of the layer's two mixers for one token, as plain mathematics over the extended reals. -/

@[expose] public section
noncomputable section
namespace Cert.InSpec
open Idealize.ShloMosaic

/-- The weights of the mixers' inputs. -/
structure Weights where
  gx : Fin 1024 → EReal
  win : Fin 1024 → Fin 1696 → EReal
  gq : Fin 384 → EReal
  wq : Fin 384 → Fin 768 → EReal
  gkv : Fin 256 → EReal
  wkv : Fin 256 → Fin 1024 → EReal
  cw : ℕ → Fin 512 → EReal
  cb : Fin 512 → EReal
  lg : Fin 512 → EReal
  lb : Fin 512 → EReal

/-- What one token brings: the layer's input and its position. -/
structure Token where
  x : Fin 1024 → EReal
  pos : EReal

/-- The root-mean-square normalization of a row of `n` entries, scaled. -/
def rms {d : ℕ} (n : EReal) (x g : Fin d → EReal) (j : Fin d) : EReal :=
  x j * Ideal.rsqrt (Ideal.div (∑ k, x k * x k) n + Ideal.ofBits .f32 0x358637BD#32) * g j

/-- The logistic function. -/
def sigmoid (x : EReal) : EReal := Ideal.div 1 (1 + Ideal.exp (-x))

/-- The reciprocal of `√96 · log 2`. -/
def scale : EReal := (((Real.sqrt 96)⁻¹ * (Real.log 2)⁻¹ : ℝ) : EReal)

/-- The angle per position of the pair `i` of rotated entries. -/
def freq (i : Fin 16) : EReal :=
  Ideal.pow (Ideal.ofBits .f32 0x461C4000#32) (Ideal.div (-(Ideal.ofBits .f32 0x40000000#32 * ((i.val : ℝ) : EReal))) (Ideal.ofBits .f32 0x42000000#32))

/-- A lane's number, as a real. -/
theorem sitofp_lane (i : Fin 16) : FloatOps.sitofp (F := Ideal) .f32 (BitVec.ofNat 32 i.val) = ((i.val : ℝ) : EReal) := by
  have h : (BitVec.ofNat 32 i.val).toInt = (i.val : ℤ) := by revert i; decide
  show (((BitVec.ofNat 32 i.val).toInt : ℝ) : EReal) = _
  rw [h, Int.cast_natCast]

/-- The padding's zero. -/
theorem sitofp_zero : FloatOps.sitofp (F := Ideal) .f32 0#32 = (0 : EReal) := by
  simp [FloatOps.sitofp]

/-- The rotation of 32 entries, as 16 pairs, by the angles of the given cosines and sines. -/
def rotary (u : Fin 32 → EReal) (cs sn : Fin 16 → EReal) (e : Fin 32) : EReal :=
  if h : e.val < 16 then u ⟨e.val, e.isLt⟩ * cs ⟨e.val, h⟩ - u ⟨16 + e.val, by omega⟩ * sn ⟨e.val, h⟩
  else u ⟨e.val - 16, by omega⟩ * sn ⟨e.val - 16, by omega⟩ + u ⟨16 + (e.val - 16), by omega⟩ * cs ⟨e.val - 16, by omega⟩

/-- A head of 96 entries: 64 as they are, behind them 32. -/
def join (u : Fin 64 → EReal) (v : Fin 32 → EReal) (d : Fin 96) : EReal :=
  if h : d.val < 64 then u ⟨d.val, h⟩ else v ⟨d.val - 64, by omega⟩

/-- A head padded to 128 entries with zeros. -/
def padded (u : Fin 96 → EReal) (d : Fin 128) : EReal := if h : d.val < 96 then u ⟨d.val, h⟩ else 0

/-- The gated linear unit before the convolution. -/
def glu (a g : Fin 512 → EReal) (f : Fin 512) : EReal := a f * sigmoid (g f)

/-- The layer normalization of a row, scaled and shifted. -/
def layerNorm (x g b : Fin 512 → EReal) (f : Fin 512) : EReal :=
  rms (Ideal.ofBits .f32 0x44000000#32) (fun k => x k - Ideal.div (∑ l, x l) (Ideal.ofBits .f32 0x44000000#32)) g f + b f

/-- The silu of the layer normalization. -/
def normed (x g b : Fin 512 → EReal) (f : Fin 512) : EReal := layerNorm x g b f * sigmoid (layerNorm x g b f)

variable (W : Weights) (T : Token)

/-- The normalized input. -/
def xn : Fin 1024 → EReal := rms (Ideal.ofBits .f32 0x44800000#32) T.x W.gx
/-- The input projection. -/
def proj (n : Fin 1696) : EReal := ∑ k, xn W T k * W.win k n
/-- The cosines of the token's angles. -/
def cs (i : Fin 16) : EReal := Ideal.cos (T.pos * freq i)
/-- The sines of the token's angles. -/
def sn (i : Fin 16) : EReal := Ideal.sin (T.pos * freq i)
/-- The queries before the rotation. -/
def query (c : Fin 768) : EReal :=
  ∑ r, rms (Ideal.ofBits .f32 0x43C00000#32) (fun r : Fin 384 => proj W T ⟨r.val, by omega⟩) W.gq r * W.wq r c
/-- The keys without their rotated part, and the values. -/
def keyval (c : Fin 1024) : EReal :=
  ∑ r, rms (Ideal.ofBits .f32 0x43800000#32) (fun r : Fin 256 => proj W T ⟨384 + r.val, by omega⟩) W.gkv r * W.wkv r c
/-- Entry `r` of the attention's queries: head `r / 128`, scaled, and padded with zeros. -/
def qOut (r : Fin 1024) : EReal :=
  padded (fun d => join (fun d => query W T ⟨r.val / 128 * 96 + d.val, by omega⟩)
    (rotary (fun e => query W T ⟨r.val / 128 * 96 + (64 + e.val), by omega⟩) (cs T) (sn T)) d * scale) ⟨r.val % 128, by omega⟩
/-- Entry `r` of the attention's keys: head `r / 128`, padded with zeros. -/
def kOut (r : Fin 1024) : EReal :=
  padded (join (fun d => keyval W T ⟨r.val / 128 * 128 + d.val, by omega⟩)
    (rotary (fun e => proj W T ⟨640 + e.val, by omega⟩) (cs T) (sn T))) ⟨r.val % 128, by omega⟩
/-- Entry `r` of the attention's values: head `r / 64`. -/
def vOut (r : Fin 512) : EReal := keyval W T ⟨r.val / 64 * 128 + (64 + r.val % 64), by omega⟩
/-- The convolution mixer's gated linear unit. -/
def unit : Fin 512 → EReal :=
  glu (fun f => proj W T ⟨672 + f.val, by omega⟩) (fun f => proj W T ⟨672 + (512 + f.val), by omega⟩)

/-- The convolution over the rows `u`, the last of them this token's. -/
def conv (u : ℕ → Fin 512 → EReal) (f : Fin 512) : EReal :=
  (∑ j ∈ Finset.range 31, W.cw j f * u j f) + W.cb f
/-- The convolution mixer's output, from the rows of the gated linear unit. -/
def cOut (u : ℕ → Fin 512 → EReal) : Fin 512 → EReal := normed (conv W u) W.lg W.lb

/-- The gated linear unit of the token `k` places before token `s` of a sequence; zeros before its beginning. -/
def unitBefore (T : Fin 4096 → Token) (s : Fin 4096) (k : ℕ) (f : Fin 512) : EReal :=
  if k ≤ s.val then unit W (T ⟨s.val - k, by omega⟩) f else 0

/-- The convolution mixer's output for token `s` of a sequence. -/
def mixed (T : Fin 4096 → Token) (s : Fin 4096) : Fin 512 → EReal := cOut W fun j => unitBefore W T s (30 - j)

end Cert.InSpec
-- ==== Proof.InRef.lean ====
module
public import proofs.«01_k».proof.Proof.Gen.InRefIdeal.Run
public import proofs.«01_k».proof.Proof.InSpec
public import Idealize.ShloMosaic.Lib.Pointwise

/-! The reference of the mixers' inputs, entry by entry: the plain mathematics of one token. -/

@[expose] public section
set_option maxRecDepth 16384
noncomputable section
namespace Cert.InRefIdeal.Value
open Idealize.ShloMosaic Idealize.ShloMosaic.TcCoe Idealize.SL.Sem Cert.InRefIdeal Cert.InRefIdeal.Gen
open Cert.InSpec

/-- The arguments of the reference. -/
structure Args where
  x : FVec Ideal S8x4096x1024 .f32
  pos : IVec S8x4096 32
  gx : FVec Ideal S1x1024 .f32
  win : FVec Ideal S1x1024x1696 .f32
  gq : FVec Ideal S1x384 .f32
  wq : FVec Ideal S1x384x768 .f32
  gkv : FVec Ideal S1x256 .f32
  wkv : FVec Ideal S1x256x1024 .f32
  cw : FVec Ideal S1x31x512 .f32
  cb : FVec Ideal S1x512 .f32
  lg : FVec Ideal S1x512 .f32
  lb : FVec Ideal S1x512 .f32

/-- The weights among the arguments. -/
def Args.W (A : Args) : Weights where
  gx j := A.gx (ix2 0 j)
  win k j := A.win (ix3 0 k j)
  gq j := A.gq (ix2 0 j)
  wq k j := A.wq (ix3 0 k j)
  gkv j := A.gkv (ix2 0 j)
  wkv k j := A.wkv (ix3 0 k j)
  cw k j := if h : k < 31 then A.cw (ix3 0 ⟨k, h⟩ j) else 0
  cb j := A.cb (ix2 0 j)
  lg j := A.lg (ix2 0 j)
  lb j := A.lb (ix2 0 j)

/-- Token `s` of sequence `b` among the arguments. -/
def Args.T (A : Args) (b : Fin 8) (s : Fin 4096) : Token where
  x j := A.x (ix3 b s j)
  pos := FloatOps.sitofp (F := Ideal) .f32 (A.pos (ix2 b s))

/-- The arguments in a device's memory. -/
def args (V : Valuation τ sig (Elt Ideal)) : Args where
  x := V (Proc.devRef .tc main_arg0)
  pos := V (Proc.devRef .tc main_arg1)
  gx := V (Proc.devRef .tc main_arg2)
  win := V (Proc.devRef .tc main_arg3)
  gq := V (Proc.devRef .tc main_arg4)
  wq := V (Proc.devRef .tc main_arg5)
  gkv := V (Proc.devRef .tc main_arg6)
  wkv := V (Proc.devRef .tc main_arg7)
  cw := V (Proc.devRef .tc main_arg8)
  cb := V (Proc.devRef .tc main_arg9)
  lg := V (Proc.devRef .tc main_arg10)
  lb := V (Proc.devRef .tc main_arg11)

section
variable (V : Valuation τ sig (Elt Ideal)) (b : Fin 8) (s : Fin 4096)

/-- The cosines. -/
theorem v16_apply (i : Fin 16) : res_main_v16 V (ix3 b s i) = cs ((args V).T b s) i := by
  unfold res_main_v16 res_main_v15
  pointwise
  rw [sitofp_lane]
  rfl

/-- The sines. -/
theorem v17_apply (i : Fin 16) : res_main_v17 V (ix3 b s i) = sn ((args V).T b s) i := by
  unfold res_main_v17 res_main_v15
  pointwise
  rw [sitofp_lane]
  rfl

/-- The input projection. -/
theorem v33_apply (n : Fin 1696) : res_main_v33 V (ix3 b s n) = proj (args V).W ((args V).T b s) n := by
  unfold res_main_v33
  pointwise
  rfl

/-- The queries before the rotation. -/
theorem v54_apply (h : Fin 8) (d : Fin 96) :
    res_main_v54 V (ix4 b s h d) = query (args V).W ((args V).T b s) ⟨h.val * 96 + d.val, by omega⟩ := by
  unfold res_main_v54 res_main_v34
  pointwise
  simp only [v33_apply]
  rfl

/-- The keys without their rotated part, and the values. -/
theorem v73_apply (h : Fin 8) (d : Fin 128) :
    res_main_v73 V (ix4 b s h d) = keyval (args V).W ((args V).T b s) ⟨h.val * 128 + d.val, by omega⟩ := by
  unfold res_main_v73 res_main_v35
  pointwise
  simp only [v33_apply]
  rfl

/-- The gated linear unit, thirty rows further because of the padding. -/
theorem v128_apply (s : Fin 4126) (f : Fin 512) :
    res_main_v128 V (ix3 b s f) = if h : 30 ≤ s.val then unit (args V).W ((args V).T b ⟨s.val - 30, by omega⟩) f else 0 := by
  unfold res_main_v128 res_main_v37
  pointwise
  simp only [v33_apply]
  by_cases h : 30 ≤ s.val
  · rw [dif_pos h, dif_pos ⟨h, by omega⟩]
    rfl
  · rw [dif_neg h, dif_neg fun h' => h h'.1]
    simp [FloatOps.sitofp]

/-- A row of the padded unit, from `o` on. -/
theorem shifted (o : ℕ) (ho : o ≤ 30) (f : Fin 512) (h : o + s.val < 4126) :
    res_main_v128 V (ix3 b ⟨o + s.val, h⟩ f) = unitBefore (args V).W ((args V).T b) s (30 - o) f := by
  rw [v128_apply, unitBefore]
  by_cases h : 30 - o ≤ s.val
  · rw [dif_pos (by show 30 ≤ o + s.val; omega), if_pos h]
    refine congrArg (fun s => unit (args V).W ((args V).T b s) f) (Fin.ext ?_)
    show o + s.val - 30 = s.val - (30 - o)
    omega
  · rw [dif_neg (by show ¬ 30 ≤ o + s.val; omega), if_neg h]

end
end Cert.InRefIdeal.Value
-- ==== Proof.InPre.lean ====
module
public import proofs.«01_k».proof.Proof.InSpec
public import proofs.«01_k».proof.Proof.Gen.Pre_finite_key_weights

/-! What the precondition gives: the normalized inputs are reals, so that a dot product with negated weights is the negated
dot product. -/

@[expose] public section
set_option maxRecDepth 16384
noncomputable section
namespace Cert.InSpec
open Idealize.ShloMosaic Idealize.ShloMosaic.TcCoe

/-- A value whose absolute value is below +∞ is a real. -/
theorem real_of_abs_lt (x : EReal) (h : FloatOps.absf (F := Ideal) (φ := .f32) x < Ideal.ofBits .f32 2139095040#32) : ∃ r : ℝ, x = r := by
  have hw : Ideal.ofBits .f32 2139095040#32 = (⊤ : EReal) := by
    simp [Ideal.ofBits, Ideal.ieee]
  rw [hw] at h
  induction x using EReal.rec with
  | bot => exact absurd (show max (⊥ : EReal) (-⊥) < ⊤ from h) (by simp)
  | top => exact absurd (show max (⊤ : EReal) (-⊤) < ⊤ from h) (by simp)
  | coe r => exact ⟨r, rfl⟩

/-- Both of two truth values are 1 when their conjunction is. -/
theorem both_of_andi (p q : Prop) [Decidable p] [Decidable q]
    (h : IntOp.andi (BitVec.ofBool (decide p)) (BitVec.ofBool (decide q)) = 1#1) : p ∧ q := by
  by_cases hp : p <;> by_cases hq : q <;> simp [hp, hq, IntOp.andi] at h ⊢

open Cert.Pre_finite_key_weights in
/-- The precondition makes the norm's weights and the shared key's columns of the projection reals. -/
theorem reals_of_pre (x0 : FVec Ideal S8x4096x1024 .f32) (x1 : IVec S8x4096 32) (g : FVec Ideal S1x1024 .f32) (w : FVec Ideal S1x1024x1696 .f32)
    (x4 : FVec Ideal S1x384 .f32) (x5 : FVec Ideal S1x384x768 .f32) (x6 : FVec Ideal S1x256 .f32) (x7 : FVec Ideal S1x256x1024 .f32)
    (x8 : FVec Ideal S1x31x512 .f32) (x9 x10 x11 : FVec Ideal S1x512 .f32)
    (h : fn (F := Ideal) x0 x1 g w x4 x5 x6 x7 x8 x9 x10 x11 = fun _ => 1#1) :
    (∀ k, ∃ r : ℝ, g (ix2 0 k) = r) ∧ ∀ k (e : Fin 32), ∃ r : ℝ, w (ix3 0 k ⟨640 + e.val, by omega⟩) = r := by
  have key : ∀ (k : Fin 1024) (e : Fin 32), fn (F := Ideal) x0 x1 g w x4 x5 x6 x7 x8 x9 x10 x11 (ix2 k e) = 1#1 := fun k e => congrFun h _
  unfold fn at key
  have both : ∀ (k : Fin 1024) (e : Fin 32),
      FloatOps.absf (F := Ideal) (φ := .f32) (g (ix2 0 k)) < Ideal.ofBits .f32 2139095040#32
      ∧ FloatOps.absf (F := Ideal) (φ := .f32) (w (ix3 0 k ⟨640 + e.val, by omega⟩)) < Ideal.ofBits .f32 2139095040#32 := by
    intro k e
    have := key k e
    revert this
    pointwise
    exact both_of_andi _ _
  exact ⟨fun k => real_of_abs_lt _ (both k 0).1, fun k e => real_of_abs_lt _ (both k e).2⟩

/-- A square is not negative. -/
theorem mul_self_nonneg' (x : EReal) : 0 ≤ x * x := by
  induction x using EReal.rec with
  | bot => simp
  | top => simp
  | coe r => rw [← EReal.coe_mul, EReal.coe_nonneg]; exact mul_self_nonneg r

/-- A sum of reals is a real. -/
theorem coe_sum {d : ℕ} (u : Fin d → ℝ) : ∑ k, ((u k : ℝ) : EReal) = ((∑ k, u k : ℝ) : EReal) := by
  induction d with
  | zero => simp
  | succ d ih => rw [Fin.sum_univ_succ, Fin.sum_univ_succ, ih, EReal.coe_add]

/-- The word of the small number added to a mean square is a positive real. -/
theorem eps_pos : ∃ e : ℝ, 0 < e ∧ Ideal.ofBits .f32 0x358637BD#32 = e := by
  refine ⟨_, ?_, by simp [Ideal.ofBits, Ideal.ieee]; rfl⟩
  norm_num

/-- The word of 1024. -/
theorem word1024 : Ideal.ofBits .f32 0x44800000#32 = ((1024 : ℝ) : EReal) := by
  simp [Ideal.ofBits, Ideal.ieee]
  norm_num
  rw [← EReal.coe_mul]
  norm_num

/-- The normalization of any row is real when its weights are. -/
theorem rms_real (x g : Fin 1024 → EReal) (hg : ∀ k, ∃ r : ℝ, g k = r) (j : Fin 1024) :
    ∃ r : ℝ, rms (Ideal.ofBits .f32 0x44800000#32) x g j = r := by
  obtain ⟨e, he, hE⟩ := eps_pos
  obtain ⟨γ, hγ⟩ := hg j
  unfold rms
  rw [hE, word1024, Ideal.div_coe (by norm_num), hγ]
  by_cases hx : ∀ k, ∃ r : ℝ, x k = r
  · choose u hu using hx
    simp only [hu, ← EReal.coe_mul]
    rw [coe_sum, ← EReal.coe_mul, ← EReal.coe_add, Ideal.rsqrt_coe]
    have h0 : 0 ≤ ∑ k, u k * u k := Finset.sum_nonneg fun k _ => mul_self_nonneg (u k)
    have h1 : 0 < (∑ k, u k * u k) * (1 / 1024) + e := by positivity
    rw [if_neg (not_lt.2 h1.le), if_neg h1.ne', ← EReal.coe_mul, ← EReal.coe_mul]
    exact ⟨_, rfl⟩
  · push Not at hx
    obtain ⟨k, hk⟩ := hx
    have hT : x k * x k = ⊤ := by
      induction hxk : x k using EReal.rec with
      | bot => simp
      | top => simp
      | coe r => exact absurd hxk (hk r)
    have hs : ∑ k, x k * x k = (⊤ : EReal) :=
      top_unique (hT ▸ Finset.single_le_sum (f := fun k => x k * x k) (fun k _ => mul_self_nonneg' (x k)) (Finset.mem_univ k))
    rw [hs, EReal.top_mul_coe_of_pos (by norm_num), EReal.top_add_coe, Ideal.rsqrt_top, mul_zero, zero_mul]
    exact ⟨0, rfl⟩

/-- A dot product of reals with the weights negated. -/
theorem sum_mul_neg {d : ℕ} (x w : Fin d → EReal) (hx : ∀ k, ∃ r : ℝ, x k = r) (hw : ∀ k, ∃ r : ℝ, w k = r) :
    ∑ k, x k * -w k = -∑ k, x k * w k := by
  choose u hu using hx
  choose v hv using hw
  simp only [hu, hv, ← EReal.coe_neg, ← EReal.coe_mul]
  rw [coe_sum, coe_sum, ← EReal.coe_neg, ← Finset.sum_neg_distrib]
  simp only [mul_neg]

/-- The scale taken out of a difference. -/
theorem sub_scale (a b c d : EReal) : a * scale * c - b * scale * d = (a * c - b * d) * scale := by
  have h0 : 0 ≤ scale := by
    rw [scale, EReal.coe_nonneg]
    have := Real.log_nonneg (show (1 : ℝ) ≤ 2 by norm_num)
    positivity
  rw [sub_eq_add_neg, sub_eq_add_neg, EReal.right_distrib_of_nonneg_of_ne_top h0 (EReal.coe_ne_top _), EReal.neg_mul,
    mul_right_comm, mul_right_comm b]

/-- The scale taken out of a sum. -/
theorem add_scale (a b c d : EReal) : a * scale * c + b * scale * d = (a * c + b * d) * scale := by
  have h0 : 0 ≤ scale := by
    rw [scale, EReal.coe_nonneg]
    have := Real.log_nonneg (show (1 : ℝ) ≤ 2 by norm_num)
    positivity
  rw [EReal.right_distrib_of_nonneg_of_ne_top h0 (EReal.coe_ne_top _), mul_right_comm, mul_right_comm b]

end Cert.InSpec
-- ==== Proof.InEq.lean ====
module
public import proofs.«01_k».proof.Proof.InRef
public import proofs.«01_k».proof.Proof.InPre
public import proofs.«01_k».proof.Proof.Gen.InIdeal.Value
public import Idealize.ShloMosaic.Lib.Pipeline.ValueKit

/-! What the blocks of a grid point of the mixers' inputs hold. -/

@[expose] public section
set_option maxRecDepth 16384
noncomputable section
namespace Cert.InIdeal.Value
open Idealize.ShloMosaic Idealize.ShloMosaic.TcCoe Idealize.SL.Sem Cert.InIdeal Cert.InIdeal.Gen
open Idealize.ShloMosaic.Pipeline (Dat)
open Cert.InSpec

/-- The index maps of the windows that move with the grid. -/
theorem idx : ∀ t : Fin cfg0.N,
    win0_0.index t = ![(grid0.coords t 0).val, 0, (grid0.coords t 1).val]
    ∧ win0_1.index t = ![(grid0.coords t 0).val, (grid0.coords t 1).val, 0]
    ∧ win0_14.index t = ![(grid0.coords t 0).val, 0, (grid0.coords t 1).val]
    ∧ win0_15.index t = ![(grid0.coords t 0).val, (grid0.coords t 1).val, 0]
    ∧ win0_16.index t = ![(grid0.coords t 0).val, (grid0.coords t 1).val, 0, 0]
    ∧ win0_17.index t = ![(grid0.coords t 0).val, (grid0.coords t 1).val, 0] :=
  (by decide +kernel : ∀ t : Fin grid0.N, _)

/-- The index maps of the weights, each one block. -/
theorem idxW : ∀ t : Fin cfg0.N,
    win0_2.index t = ![0, 0] ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] :=
  (by decide +kernel : ∀ t : Fin grid0.N, _)

/-- A grid point, from its sequence and its tile. -/
theorem coords : ∀ t : Fin cfg0.N, t.val = 8 * (grid0.coords t 0).val + (grid0.coords t 1).val :=
  (by decide +kernel : ∀ t : Fin grid0.N, _)

variable (m : (ℓ : Loc nD τ sig) → Buf (Elt Ideal) ℓ) (c : Dev nD)

/-- The arguments of one device. -/
def A : InRefIdeal.Value.Args where
  x := m ((c : Thread nD τ).loc main_arg0)
  pos := m ((c : Thread nD τ).loc main_arg1)
  gx := m ((c : Thread nD τ).loc main_arg2)
  win := m ((c : Thread nD τ).loc main_arg3)
  gq := m ((c : Thread nD τ).loc main_arg4)
  wq := m ((c : Thread nD τ).loc main_arg5)
  gkv := m ((c : Thread nD τ).loc main_arg6)
  wkv := m ((c : Thread nD τ).loc main_arg7)
  cw := m ((c : Thread nD τ).loc main_arg8)
  cb := m ((c : Thread nD τ).loc main_arg9)
  lg := m ((c : Thread nD τ).loc main_arg10)
  lb := m ((c : Thread nD τ).loc main_arg11)

variable (t : Fin cfg0.N)

/-- The sequence and the tile of a grid point. -/
abbrev pb : Fin 8 := grid0.coords t 0
abbrev pi : Fin 8 := grid0.coords t 1
/-- The position of a block's token in its sequence. -/
abbrev pos (y : Fin 512) : Fin 4096 := ⟨512 * (pi t).val + y.val, by omega⟩

/-- The positions' block of a grid point. -/
theorem block0 (y : Fin 512) : iblk m c 0 t (ix3 0 0 y) = (A m c).pos (ix2 (pb t) (pos t y)) := by
  have h : (win0_0.blk t).view.emb (ix3 0 0 y) = ix3 (pb t) 0 (pos t y) := by
    blk_ext [idx t]
    all_goals first | rfl | (simp only [pb, pi, pos]; omega)
  refine (congrArg (V m c main_v38) h).trans ?_
  entry_read
  pointwise
  rfl

/-- The layer's input's block of a grid point. -/
theorem block1 (y : Fin 512) (j : Fin 1024) : iblk m c 1 t (ix3 0 y j) = (A m c).x (ix3 (pb t) (pos t y) j) := by
  blk_point [iblk, V, idx t]
  all_goals first | rfl | (simp only [pb, pi, pos]; omega)

/-- The norm weights, a block of its own. -/
theorem block2 (j : Fin 1024) : iblk m c 2 t (ix2 0 j) = (A m c).gx (ix2 0 j) := by
  refine (congrArg (V m c main_v40) (show (win0_2.blk t).view.emb (ix2 0 j) = ix2 0 j by blk_ext [idxW t])).trans ?_
  entry_read
  pointwise
  rfl

/-- The queries' norm weights, a block of its own. -/
theorem block4 (j : Fin 384) : iblk m c 4 t (ix2 0 j) = (A m c).gq (ix2 0 j) := by
  refine (congrArg (V m c main_v42) (show (win0_4.blk t).view.emb (ix2 0 j) = ix2 0 j by blk_ext [idxW t])).trans ?_
  entry_read
  pointwise
  rfl

/-- The queries' projection, transposed, a block of its own. -/
theorem block5 (k : Fin 768) (j : Fin 384) : iblk m c 5 t (ix2 k j) = (A m c).wq (ix3 0 j k) := by
  refine (congrArg (V m c main_v18) (show (win0_5.blk t).view.emb (ix2 k j) = ix2 k j by blk_ext [idxW t])).trans ?_
  entry_read
  pointwise
  rfl

/-- The keys' and values' norm weights, a block of its own. -/
theorem block6 (j : Fin 256) : iblk m c 6 t (ix2 0 j) = (A m c).gkv (ix2 0 j) := by
  refine (congrArg (V m c main_v44) (show (win0_6.blk t).view.emb (ix2 0 j) = ix2 0 j by blk_ext [idxW t])).trans ?_
  entry_read
  pointwise
  rfl

/-- The keys' and values' projection, a block of its own. -/
theorem block7 (k : Fin 256) (j : Fin 1024) : iblk m c 7 t (ix2 k j) = (A m c).wkv (ix3 0 k j) := by
  refine (congrArg (V m c main_v20) (show (win0_7.blk t).view.emb (ix2 k j) = ix2 k j by blk_ext [idxW t])).trans ?_
  entry_read
  pointwise
  rfl

/-- The values' columns of the projection, transposed, a block of its own. -/
theorem block8 (k : Fin 512) (j : Fin 256) : iblk m c 8 t (ix2 k j) = (A m c).wkv (ix3 0 j ⟨k.val / 64 * 128 + (64 + k.val % 64), by omega⟩) := by
  refine (congrArg (V m c main_v26) (show (win0_8.blk t).view.emb (ix2 k j) = ix2 k j by blk_ext [idxW t])).trans ?_
  entry_read
  pointwise
  rfl

/-- The angles per position, a block of their own. -/
theorem block9 (i : Fin 16) : iblk m c 9 t (ix2 i 0) = freq i := by
  refine (congrArg (V m c main_v37) (show (win0_9.blk t).view.emb (ix2 i 0) = ix2 i 0 by blk_ext [idxW t])).trans ?_
  entry_read
  pointwise
  rw [sitofp_lane]
  rfl

/-- The convolution weights, a block of its own. -/
theorem block10 (k : Fin 31) (j : Fin 512) : iblk m c 10 t (ix2 k j) = (A m c).cw (ix3 0 k j) := by
  refine (congrArg (V m c main_v45) (show (win0_10.blk t).view.emb (ix2 k j) = ix2 k j by blk_ext [idxW t])).trans ?_
  entry_read
  pointwise
  rfl

/-- The convolution bias, a block of its own. -/
theorem block11 (j : Fin 512) : iblk m c 11 t (ix2 0 j) = (A m c).cb (ix2 0 j) := by
  refine (congrArg (V m c main_v47) (show (win0_11.blk t).view.emb (ix2 0 j) = ix2 0 j by blk_ext [idxW t])).trans ?_
  entry_read
  pointwise
  rfl

/-- The layer norm's weights, a block of its own. -/
theorem block12 (j : Fin 512) : iblk m c 12 t (ix2 0 j) = (A m c).lg (ix2 0 j) := by
  refine (congrArg (V m c main_v49) (show (win0_12.blk t).view.emb (ix2 0 j) = ix2 0 j by blk_ext [idxW t])).trans ?_
  entry_read
  pointwise
  rfl

/-- The layer norm's bias, a block of its own. -/
theorem block13 (j : Fin 512) : iblk m c 13 t (ix2 0 j) = (A m c).lb (ix2 0 j) := by
  refine (congrArg (V m c main_v51) (show (win0_13.blk t).view.emb (ix2 0 j) = ix2 0 j by blk_ext [idxW t])).trans ?_
  entry_read
  pointwise
  rfl

end Cert.InIdeal.Value
-- ==== Proof.InCols.lean ====
module
public import proofs.«01_k».proof.Proof.InEq

/-! The columns of the input projection, as the kernel is handed them: rearranged, and those of the rotary key repeated with
their halves swapped and the first negated. -/

@[expose] public section
set_option maxRecDepth 16384
noncomputable section
namespace Cert.InIdeal.Value
open Idealize.ShloMosaic Idealize.ShloMosaic.TcCoe Idealize.SL.Sem Cert.InIdeal Cert.InIdeal.Gen
open Idealize.ShloMosaic.Pipeline (Dat)
open Cert.InSpec

variable (m : (ℓ : Loc nD τ sig) → Buf (Elt Ideal) ℓ) (c : Dev nD) (t : Fin cfg0.N)

/-- What a joining operation leaves in its result at the end of a line of operations, when nothing later writes its result or its operands. -/
theorem nary_entry {n : ℕ} (xs : Fin n → Ref sig .tc) (y : Ref sig .tc) (f : ((k : Fin n) → (xs k).ty.Contents (Elt Ideal)) → y.ty.Contents (Elt Ideal))
    (hxs hy) (l r : List (HloOp τ sig (Elt Ideal))) (σ : Valuation τ sig (Elt Ideal))
    (h1 : ∀ op ∈ r, (y : DevRef τ sig) ∉ op.writes) (h2 : ∀ k, ∀ op ∈ StableHlo.nary xs y f hxs hy :: r, (xs k : DevRef τ sig) ∉ op.writes) :
    StableHlo.after (l ++ StableHlo.nary xs y f hxs hy :: r) σ y = f (fun k => StableHlo.after (l ++ StableHlo.nary xs y f hxs hy :: r) σ (xs k)) := by
  rw [StableHlo.after_append, StableHlo.after_cons, StableHlo.after_of_forall_not_mem _ _ h1, StableHlo.nary_result]
  refine congrArg f (funext fun k => ?_)
  rw [← StableHlo.after_cons, StableHlo.after_of_forall_not_mem _ _ (h2 k)]

/-- The same of an operation of one operand. -/
theorem unary_entry (x y : Ref sig .tc) (f : x.ty.Contents (Elt Ideal) → y.ty.Contents (Elt Ideal))
    (hx hy) (l r : List (HloOp τ sig (Elt Ideal))) (σ : Valuation τ sig (Elt Ideal))
    (h1 : ∀ op ∈ r, (y : DevRef τ sig) ∉ op.writes) (h2 : ∀ op ∈ StableHlo.unary x y f hx hy :: r, (x : DevRef τ sig) ∉ op.writes) :
    StableHlo.after (l ++ StableHlo.unary x y f hx hy :: r) σ y = f (StableHlo.after (l ++ StableHlo.unary x y f hx hy :: r) σ x) := by
  rw [StableHlo.after_append, StableHlo.after_cons, StableHlo.after_of_forall_not_mem _ _ h1, StableHlo.unary_result]
  refine congrArg f ?_
  rw [← StableHlo.after_cons, StableHlo.after_of_forall_not_mem _ _ h2]

/-- The rotary key's columns, between columns of zeros. -/
theorem columns10 : V m c main_v10 = concatenate S1024x128 1 [⟨S1024x64, V m c main_v8⟩, ⟨S1024x32, V m c main_v1⟩, ⟨S1024x32, V m c main_v9⟩] concatenates_S1024x64_S1024x32_S1024x32_S1024x128_d1 :=
  nary_entry ![main_v8, main_v1, main_v9] main_v10 _ _ _ (hostOps0.take 12) (hostOps0.drop 13) _ (by decide +kernel) (by decide +kernel)

/-- The rotary key's columns with their halves swapped and the first negated, between columns of zeros. -/
theorem columns13 : V m c main_v13 = concatenate S1024x128 1 [⟨S1024x64, V m c main_v11⟩, ⟨S1024x32, V m c main_v5⟩, ⟨S1024x32, V m c main_v12⟩] concatenates_S1024x64_S1024x32_S1024x32_S1024x128_d1 :=
  nary_entry ![main_v11, main_v5, main_v12] main_v13 _ _ _ (hostOps0.take 17) (hostOps0.drop 18) _ (by decide +kernel) (by decide +kernel)

/-- All the columns. -/
theorem columns14 : V m c main_v14 = concatenate S1024x1920 1 [⟨S1024x640, V m c main_v6⟩, ⟨S1024x1024, V m c main_v7⟩, ⟨S1024x128, V m c main_v10⟩, ⟨S1024x128, V m c main_v13⟩] concatenates_S1024x640_S1024x1024_S1024x128_S1024x128_S1024x1920_d1 :=
  nary_entry ![main_v6, main_v7, main_v10, main_v13] main_v14 _ _ _ (hostOps0.take 18) (hostOps0.drop 19) _ (by decide +kernel) (by decide +kernel)

/-- The columns are handed over as they are. -/
theorem columns15 (i : S1024x1920.Idx) : V m c main_v15 i = V m c main_v14 i := by
  have h : V m c main_v15 = _ :=
    unary_entry main_v14 main_v15 _ _ _ (hostOps0.take 19) (hostOps0.drop 20) _ (by decide +kernel) (by decide +kernel)
  exact congrFun h i

/-- A block's column is the whole's. -/
theorem block3 (k : Fin 1024) (n : Fin 1920) : iblk m c 3 t (ix2 k n) = V m c main_v14 (ix2 k n) :=
  (congrArg (V m c main_v15) (show (win0_3.blk t).view.emb (ix2 k n) = ix2 k n by blk_ext [idxW t])).trans (columns15 m c (ix2 k n))

/-- The columns that stay in place. -/
theorem block3_low (k : Fin 1024) (n : ℕ) (hn : n < 640) : iblk m c 3 t (ix2 k ⟨n, by omega⟩) = (A m c).win (ix3 0 k ⟨n, by omega⟩) := by
  rw [block3, columns14]
  generalize V m c main_v10 = v10
  generalize V m c main_v13 = v13
  generalize V m c main_v7 = v7
  entry_read
  pointwise
  rw [dif_pos hn]
  rfl

/-- The columns of the gated linear unit. -/
theorem block3_unit (k : Fin 1024) (n : ℕ) (hn : n < 1024) : iblk m c 3 t (ix2 k ⟨640 + n, by omega⟩) = (A m c).win (ix3 0 k ⟨672 + n, by omega⟩) := by
  rw [block3, columns14]
  generalize V m c main_v10 = v10
  generalize V m c main_v13 = v13
  generalize V m c main_v6 = v6
  entry_read
  pointwise
  rw [dif_pos hn]
  rfl

/-- The rotary key's columns. -/
theorem block3_key (k : Fin 1024) (n : ℕ) (hn : n < 32) : iblk m c 3 t (ix2 k ⟨1664 + (64 + n), by omega⟩) = (A m c).win (ix3 0 k ⟨640 + n, by omega⟩) := by
  rw [block3, columns14, columns10]
  generalize V m c main_v13 = v13
  generalize V m c main_v7 = v7
  generalize V m c main_v6 = v6
  generalize V m c main_v8 = v8
  generalize V m c main_v9 = v9
  entry_read
  pointwise
  have e1 : 1664 + (64 + n) - 640 - 1024 = 64 + n := by omega
  have e2 : 64 + n - 64 = n := by omega
  simp only [e1, e2]
  rw [dif_neg (by omega), dif_neg (by omega), dif_pos (by omega), dif_neg (by omega), dif_pos hn]
  rfl

/-- The rotary key's columns with their halves swapped: the first half is the negated second. -/
theorem block3_first (k : Fin 1024) (n : ℕ) (hn : n < 16) : iblk m c 3 t (ix2 k ⟨1792 + (64 + n), by omega⟩) = -(A m c).win (ix3 0 k ⟨640 + (16 + n), by omega⟩) := by
  rw [block3, columns14, columns13]
  generalize V m c main_v10 = v10
  generalize V m c main_v7 = v7
  generalize V m c main_v6 = v6
  generalize V m c main_v11 = v11
  generalize V m c main_v12 = v12
  entry_read
  pointwise
  have e1 : 1792 + (64 + n) - 640 - 1024 - 128 = 64 + n := by omega
  have e2 : 64 + n - 64 = n := by omega
  simp only [e1, e2]
  rw [dif_neg (by omega), dif_neg (by omega), dif_neg (by omega), dif_neg (by omega), dif_pos (by omega), dif_pos hn]
  rfl

/-- The second half is the first. -/
theorem block3_second (k : Fin 1024) (n : ℕ) (hn : n < 16) : iblk m c 3 t (ix2 k ⟨1792 + (80 + n), by omega⟩) = (A m c).win (ix3 0 k ⟨640 + n, by omega⟩) := by
  rw [block3, columns14, columns13]
  generalize V m c main_v10 = v10
  generalize V m c main_v7 = v7
  generalize V m c main_v6 = v6
  generalize V m c main_v11 = v11
  generalize V m c main_v12 = v12
  entry_read
  pointwise
  have e1 : 1792 + (80 + n) - 640 - 1024 - 128 = 80 + n := by omega
  have e2 : 80 + n - 64 = 16 + n := by omega
  have e3 : 16 + n - 16 = n := by omega
  simp only [e1, e2, e3]
  rw [dif_neg (by omega), dif_neg (by omega), dif_neg (by omega), dif_neg (by omega), dif_pos (by omega), dif_neg (by omega)]
  rfl

end Cert.InIdeal.Value
-- ==== Proof.InBlock.lean ====
module
public import proofs.«01_k».proof.Proof.Gen.InIdeal.Value
public import proofs.«01_k».proof.Proof.InSpec
public import Idealize.ShloMosaic.Lib.Pointwise
public import Idealize.ShloMosaic.Lib.Pipeline.ValueKit

/-! What the kernel of the mixers' inputs computes of one block of tokens: for each token, the plain mathematics. -/

@[expose] public section
set_option maxRecDepth 16384
noncomputable section
namespace Cert.InIdeal.Value
open Idealize.ShloMosaic Idealize.ShloMosaic.TcCoe Idealize.SL.Sem Cert.InIdeal Cert.InIdeal.Gen
open Cert.InSpec

variable (x0 : Vec Ideal S1x1x512 .i32) (x1 : Vec Ideal S1x512x1024 .f32) (x2 : Vec Ideal S1x1024 .f32) (x3 : Vec Ideal S1024x1920 .bf16)
  (x4 : Vec Ideal S1x384 .f32) (x5 : Vec Ideal S768x384 .bf16) (x6 : Vec Ideal S1x256 .f32) (x7 : Vec Ideal S256x1024 .bf16)
  (x8 : Vec Ideal S512x256 .bf16) (x9 : Vec Ideal S16x1 .f32) (x10 : Vec Ideal S31x512 .f32) (x11 : Vec Ideal S1x512 .f32)
  (x12 : Vec Ideal S1x512 .f32) (x13 : Vec Ideal S1x512 .f32) (y : Fin 512)

/-- The input projection, with its columns rearranged and repeated. -/
theorem pay2_apply (n : Fin 1920) :
    k0_pay2 x1 x2 x3 (ix2 y n) = ∑ k, rms (Ideal.ofBits .f32 0x44800000#32) (fun j : Fin 1024 => x1 (ix3 0 y j)) (fun j => x2 (ix2 0 j)) k * x3 (ix2 k n) := by
  pointwise [k0_pay2]
  rfl

/-- The normalized input of the queries. -/
theorem pay3_apply (r : Fin 384) :
    k0_pay3 x1 x2 x3 x4 (ix2 y r) = rms (Ideal.ofBits .f32 0x43C00000#32) (fun r : Fin 384 => k0_pay2 x1 x2 x3 (ix2 y ⟨r.val, by omega⟩)) (fun r => x4 (ix2 0 r)) r := by
  pointwise [k0_pay3]
  rfl

/-- The normalized input of the keys and values. -/
theorem pay7_apply (r : Fin 256) :
    k0_pay7 (k0_pay4 x1 x2 x3) (k0_pay5 x6) (k0_pay6 x1 x2 x3) (ix2 y r)
      = rms (Ideal.ofBits .f32 0x43800000#32) (fun r : Fin 256 => k0_pay2 x1 x2 x3 (ix2 y ⟨384 + r.val, by omega⟩)) (fun r => x6 (ix2 0 r)) r := by
  pointwise [k0_pay7, k0_pay4, k0_pay5, k0_pay6]
  rfl

/-- The cosines. -/
theorem pay9_apply (i : Fin 16) : k0_pay9 x9 x0 (ix2 i y) = Ideal.cos (x9 (ix2 i 0) * FloatOps.sitofp (F := Ideal) .f32 (x0 (ix3 0 0 y))) := by
  pointwise [k0_pay9, k0_pay8]

/-- The sines. -/
theorem pay10_apply (i : Fin 16) : k0_pay10 x9 x0 (ix2 i y) = Ideal.sin (x9 (ix2 i 0) * FloatOps.sitofp (F := Ideal) .f32 (x0 (ix3 0 0 y))) := by
  pointwise [k0_pay10, k0_pay8]

/-- The scaled queries before the rotation. -/
theorem pay11_apply (q : FVec Ideal S512x384 .bf16) (c : Fin 768) : k0_pay11 q x5 (ix2 c y) = (∑ r, x5 (ix2 c r) * q (ix2 y r)) * scale := by
  pointwise [k0_pay11]
  rfl

/-- The keys without their rotated part. -/
theorem pay65_apply (k : FVec Ideal S512x256 .bf16) (c : Fin 1024) : k0_pay65 k x7 (ix2 y c) = ∑ r, k (ix2 y r) * x7 (ix2 r c) := by
  pointwise [k0_pay65]

/-- The values. -/
theorem pay75_apply (k : FVec Ideal S512x256 .bf16) (r : Fin 512) : k0_pay75 k x8 (ix4 0 0 r y) = ∑ j, x8 (ix2 r j) * k (ix2 y j) := by
  pointwise [k0_pay75]

/-- The gated linear unit. -/
theorem pay77_apply (p : FVec Ideal S512x1920 .f32) (f : Fin 512) :
    k0_pay77 p (ix2 y f) = glu (fun f => p (ix2 y ⟨640 + f.val, by omega⟩)) (fun f => p (ix2 y ⟨1152 + f.val, by omega⟩)) f := by
  pointwise [k0_pay77]
  rfl

/-- The convolution mixer's output, from the convolution. -/
theorem pay1_apply (u : FVec Ideal S512x512 .f32) (f : Fin 512) :
    k0_pay1 u x12 x13 (ix3 0 y f) = normed (fun f => u (ix2 y f)) (fun f => x12 (ix2 0 f)) (fun f => x13 (ix2 0 f)) f := by
  pointwise [k0_pay1]
  rfl

/-- The rotated key, between zeros. -/
theorem pay64_apply (p : FVec Ideal S512x1920 .f32) (c s : FVec Ideal S16x512 .f32) (e : Fin 128) :
    k0_pay64 p c s (ix2 y e) = if h : 64 ≤ e.val ∧ e.val < 96 then
        p (ix2 y ⟨1664 + e.val, by omega⟩) * c (ix2 ⟨(e.val - 64) % 16, by omega⟩ y) + p (ix2 y ⟨1792 + e.val, by omega⟩) * s (ix2 ⟨(e.val - 64) % 16, by omega⟩ y)
      else 0 := by
  pointwise [k0_pay64]
  by_cases h : 64 ≤ e.val ∧ e.val < 96
  · rw [dif_pos h]
    by_cases h' : e.val - 64 < 16
    · have hm : (e.val - 64) % 16 = e.val - 64 := by omega
      simp only [hm]
      rw [dif_neg (by omega), dif_pos h', dif_neg (by omega), dif_pos h']
    · have hm : (e.val - 64) % 16 = e.val - 64 - 16 := by omega
      simp only [hm]
      rw [dif_neg (by omega), dif_neg h', dif_pos (by omega), dif_neg (by omega), dif_neg h', dif_pos (by omega)]
  · rw [dif_neg h]
    by_cases h' : e.val < 64
    · rw [dif_pos h', dif_pos h', mul_zero, mul_zero, add_zero]
    · rw [dif_neg h', dif_neg (by omega), dif_neg (by omega), dif_neg h', dif_neg (by omega), dif_neg (by omega), mul_zero, mul_zero, add_zero]

/-- The convolution, from its thirty-one shifted reads. -/
theorem conv_apply (W : Weights) (u : ℕ → Fin 512 → EReal) (f : Fin 512) (hw : ∀ j : Fin 31, x10 (ix2 j f) = W.cw j.val f) (hb : x11 (ix2 0 f) = W.cb f)
    {s0 s1 s2 s3 s4 s5 s6 s7 s8 s9 s10 s11 s12 s13 s14 s15 s16 s17 s18 s19 s20 s21 s22 s23 s24 s25 s26 s27 s28 s29 s30 : Vec Ideal S512x512 .f32}
    (h0 : s0 (ix2 y f) = u 0 f) (h1 : s1 (ix2 y f) = u 1 f) (h2 : s2 (ix2 y f) = u 2 f) (h3 : s3 (ix2 y f) = u 3 f) (h4 : s4 (ix2 y f) = u 4 f) (h5 : s5 (ix2 y f) = u 5 f) (h6 : s6 (ix2 y f) = u 6 f) (h7 : s7 (ix2 y f) = u 7 f) (h8 : s8 (ix2 y f) = u 8 f) (h9 : s9 (ix2 y f) = u 9 f) (h10 : s10 (ix2 y f) = u 10 f) (h11 : s11 (ix2 y f) = u 11 f) (h12 : s12 (ix2 y f) = u 12 f) (h13 : s13 (ix2 y f) = u 13 f) (h14 : s14 (ix2 y f) = u 14 f) (h15 : s15 (ix2 y f) = u 15 f) (h16 : s16 (ix2 y f) = u 16 f) (h17 : s17 (ix2 y f) = u 17 f) (h18 : s18 (ix2 y f) = u 18 f) (h19 : s19 (ix2 y f) = u 19 f) (h20 : s20 (ix2 y f) = u 20 f) (h21 : s21 (ix2 y f) = u 21 f) (h22 : s22 (ix2 y f) = u 22 f) (h23 : s23 (ix2 y f) = u 23 f) (h24 : s24 (ix2 y f) = u 24 f) (h25 : s25 (ix2 y f) = u 25 f) (h26 : s26 (ix2 y f) = u 26 f) (h27 : s27 (ix2 y f) = u 27 f) (h28 : s28 (ix2 y f) = u 28 f) (h29 : s29 (ix2 y f) = u 29 f) (h30 : s30 (ix2 y f) = u 30 f) :
    (k0_pay88 (k0_pay86 (k0_pay84 (k0_pay82 (k0_pay80 (k0_pay78 x11 (View.ld x10 (Rect.unit ![0, 0] ![1, 512] inb_S31x512_S1x512_0_0)) s0) s1 (k0_pay79 (View.ld x10 (Rect.unit ![1, 0] ![1, 512] inb_S31x512_S1x512_1_0))) (View.ld x10 (Rect.unit ![2, 0] ![1, 512] inb_S31x512_S1x512_2_0)) s2
      (View.ld x10 (Rect.unit ![3, 0] ![1, 512] inb_S31x512_S1x512_3_0)) s3
      (View.ld x10 (Rect.unit ![4, 0] ![1, 512] inb_S31x512_S1x512_4_0)) s4
      (View.ld x10 (Rect.unit ![5, 0] ![1, 512] inb_S31x512_S1x512_5_0)) s5
      (View.ld x10 (Rect.unit ![6, 0] ![1, 512] inb_S31x512_S1x512_6_0)) s6) s7 (k0_pay81 (View.ld x10 (Rect.unit ![7, 0] ![1, 512] inb_S31x512_S1x512_7_0))) (View.ld x10 (Rect.unit ![8, 0] ![1, 512] inb_S31x512_S1x512_8_0)) s8
      (View.ld x10 (Rect.unit ![9, 0] ![1, 512] inb_S31x512_S1x512_9_0)) s9
      (View.ld x10 (Rect.unit ![10, 0] ![1, 512] inb_S31x512_S1x512_10_0)) s10
      (View.ld x10 (Rect.unit ![11, 0] ![1, 512] inb_S31x512_S1x512_11_0)) s11
      (View.ld x10 (Rect.unit ![12, 0] ![1, 512] inb_S31x512_S1x512_12_0)) s12) s13 (k0_pay83 (View.ld x10 (Rect.unit ![13, 0] ![1, 512] inb_S31x512_S1x512_13_0))) (View.ld x10 (Rect.unit ![14, 0] ![1, 512] inb_S31x512_S1x512_14_0)) s14
      (View.ld x10 (Rect.unit ![15, 0] ![1, 512] inb_S31x512_S1x512_15_0)) s15
      (View.ld x10 (Rect.unit ![16, 0] ![1, 512] inb_S31x512_S1x512_16_0)) s16
      (View.ld x10 (Rect.unit ![17, 0] ![1, 512] inb_S31x512_S1x512_17_0)) s17
      (View.ld x10 (Rect.unit ![18, 0] ![1, 512] inb_S31x512_S1x512_18_0)) s18) s19 (k0_pay85 (View.ld x10 (Rect.unit ![19, 0] ![1, 512] inb_S31x512_S1x512_19_0))) (View.ld x10 (Rect.unit ![20, 0] ![1, 512] inb_S31x512_S1x512_20_0)) s20
      (View.ld x10 (Rect.unit ![21, 0] ![1, 512] inb_S31x512_S1x512_21_0)) s21
      (View.ld x10 (Rect.unit ![22, 0] ![1, 512] inb_S31x512_S1x512_22_0)) s22
      (View.ld x10 (Rect.unit ![23, 0] ![1, 512] inb_S31x512_S1x512_23_0)) s23
      (View.ld x10 (Rect.unit ![24, 0] ![1, 512] inb_S31x512_S1x512_24_0)) s24) s25 (k0_pay87 (View.ld x10 (Rect.unit ![25, 0] ![1, 512] inb_S31x512_S1x512_25_0))) (View.ld x10 (Rect.unit ![26, 0] ![1, 512] inb_S31x512_S1x512_26_0)) s26
      (View.ld x10 (Rect.unit ![27, 0] ![1, 512] inb_S31x512_S1x512_27_0)) s27
      (View.ld x10 (Rect.unit ![28, 0] ![1, 512] inb_S31x512_S1x512_28_0)) s28
      (View.ld x10 (Rect.unit ![29, 0] ![1, 512] inb_S31x512_S1x512_29_0)) s29
      (View.ld x10 (Rect.unit ![30, 0] ![1, 512] inb_S31x512_S1x512_30_0)) s30) (ix2 y f) = conv W u f := by
  pointwise [k0_pay78, k0_pay79, k0_pay80, k0_pay81, k0_pay82, k0_pay83, k0_pay84, k0_pay85, k0_pay86, k0_pay87, k0_pay88]
  simp only [hw, hb, h0, h1, h2, h3, h4, h5, h6, h7, h8, h9, h10, h11, h12, h13, h14, h15, h16, h17, h18, h19, h20, h21, h22, h23, h24, h25, h26, h27, h28, h29, h30]
  unfold conv
  rw [add_comm _ (W.cb f)]
  simp only [Finset.sum_range_succ, Finset.sum_range_zero, zero_add, ← add_assoc]
  rfl

end Cert.InIdeal.Value
-- ==== Proof.InTiles.lean ====
module
public import proofs.«01_k».proof.Proof.Gen.InIdeal.Value
public import proofs.«01_k».proof.Proof.InSpec
public import Idealize.ShloMosaic.Lib.Pointwise
public import Idealize.ShloMosaic.Lib.Pipeline.ValueKit

/-! The queries' and the keys' blocks, put together from the pieces the kernel stores head by head. -/

@[expose] public section
set_option maxRecDepth 16384
noncomputable section
namespace Cert.InIdeal.Value
open Idealize.ShloMosaic Idealize.ShloMosaic.TcCoe Idealize.SL.Sem Cert.InIdeal Cert.InIdeal.Gen
open Idealize.ShloMosaic.Pipeline (Dat)
open Cert.InSpec

/-- The queries of a block, from the scaled queries before the rotation. -/
def Qk (M : FVec Ideal S768x512 .f32) (c s : FVec Ideal S16x512 .f32) (r : Fin 1024) (y : Fin 512) : EReal :=
  padded (join (fun d => M (ix2 ⟨r.val / 128 * 96 + d.val, by omega⟩ y))
    (rotary (fun e => M (ix2 ⟨r.val / 128 * 96 + (64 + e.val), by omega⟩ y)) (fun i => c (ix2 i y)) (fun i => s (ix2 i y)))) ⟨r.val % 128, by omega⟩

section
variable (M : FVec Ideal S768x512 .f32) (c s : FVec Ideal S16x512 .f32) (r : Fin 1024) (y : Fin 512)

/-- A query's entry that isn't rotated. -/
theorem Qk_plain {n : ℕ} {hn : n < 768} (h1 : r.val % 128 < 64) (h2 : n = r.val / 128 * 96 + r.val % 128) :
    M (ix2 ⟨n, hn⟩ y) = Qk M c s r y := by
  subst h2
  unfold Qk padded join
  rw [dif_pos (show r.val % 128 < 96 by omega), dif_pos h1]

/-- The first entry of a rotated pair. -/
theorem Qk_first {n n' i : ℕ} {hn : n < 768} {hn' : n' < 768} {hi : i < 16} (h1 : r.val % 128 = 64 + i) (h2 : n = r.val / 128 * 96 + (64 + i)) (h3 : n' = n + 16) :
    M (ix2 ⟨n, hn⟩ y) * c (ix2 ⟨i, hi⟩ y) - M (ix2 ⟨n', hn'⟩ y) * s (ix2 ⟨i, hi⟩ y) = Qk M c s r y := by
  subst h3 h2
  unfold Qk padded join rotary
  rw [dif_pos (show r.val % 128 < 96 by omega), dif_neg (show ¬ r.val % 128 < 64 by omega), dif_pos (show r.val % 128 - 64 < 16 by omega)]
  have hM : ∀ {a b : ℕ} {ha : a < 768} {hb : b < 768}, a = b → M (ix2 ⟨a, ha⟩ y) = M (ix2 ⟨b, hb⟩ y) := by rintro a b _ _ rfl; rfl
  have hR : ∀ (R : FVec Ideal S16x512 .f32) {a b : ℕ} {ha : a < 16} {hb : b < 16}, a = b → R (ix2 ⟨a, ha⟩ y) = R (ix2 ⟨b, hb⟩ y) := by rintro R a b _ _ rfl; rfl
  exact congrArg₂ HSub.hSub (congrArg₂ HMul.hMul (hM (by first | omega | (dsimp only; omega))) (hR c (by first | omega | (dsimp only; omega))))
    (congrArg₂ HMul.hMul (hM (by first | omega | (dsimp only; omega))) (hR s (by first | omega | (dsimp only; omega))))

/-- The second entry of a rotated pair. -/
theorem Qk_second {n n' i : ℕ} {hn : n < 768} {hn' : n' < 768} {hi : i < 16} (h1 : r.val % 128 = 80 + i) (h2 : n = r.val / 128 * 96 + (64 + i)) (h3 : n' = n + 16) :
    M (ix2 ⟨n, hn⟩ y) * s (ix2 ⟨i, hi⟩ y) + M (ix2 ⟨n', hn'⟩ y) * c (ix2 ⟨i, hi⟩ y) = Qk M c s r y := by
  subst h3 h2
  unfold Qk padded join rotary
  rw [dif_pos (show r.val % 128 < 96 by omega), dif_neg (show ¬ r.val % 128 < 64 by omega), dif_neg (show ¬ r.val % 128 - 64 < 16 by omega)]
  have hM : ∀ {a b : ℕ} {ha : a < 768} {hb : b < 768}, a = b → M (ix2 ⟨a, ha⟩ y) = M (ix2 ⟨b, hb⟩ y) := by rintro a b _ _ rfl; rfl
  have hR : ∀ (R : FVec Ideal S16x512 .f32) {a b : ℕ} {ha : a < 16} {hb : b < 16}, a = b → R (ix2 ⟨a, ha⟩ y) = R (ix2 ⟨b, hb⟩ y) := by rintro R a b _ _ rfl; rfl
  exact congrArg₂ HAdd.hAdd (congrArg₂ HMul.hMul (hM (by first | omega | (dsimp only; omega))) (hR s (by first | omega | (dsimp only; omega))))
    (congrArg₂ HMul.hMul (hM (by first | omega | (dsimp only; omega))) (hR c (by first | omega | (dsimp only; omega))))

/-- The padding. -/
theorem Qk_zero (h1 : 96 ≤ r.val % 128) : 0 = Qk M c s r y := by
  unfold Qk padded
  rw [dif_neg (show ¬ r.val % 128 < 96 by omega)]
end

/-- The keys of a block, from the keys of each head and the key all heads share. -/
def Kk (N : FVec Ideal S512x1024 .f32) (R : FVec Ideal S512x128 .f32) (y : Fin 512) (r : Fin 1024) : EReal :=
  if r.val % 128 < 64 then N (ix2 y r) else R (ix2 y ⟨r.val % 128, by omega⟩)

/-- The comparison of a lane's number with 64. -/
theorem lane_lt (e : Fin 128) (a b : EReal) :
    Scalar.select (IntOp.cmpi CmpIPredicate.slt (BitVec.ofNat 32 e.val) 64#32) a b = if e.val < 64 then a else b := by
  have h : IntOp.cmpi CmpIPredicate.slt (BitVec.ofNat 32 e.val) 64#32 = BitVec.ofBool (decide (e.val < 64)) := by
    revert e
    decide +kernel
  rw [h]
  by_cases h' : e.val < 64 <;> simp [h', Scalar.select]

/-- A key's entry, as it is stored with its head. -/
theorem Kk_piece (N : FVec Ideal S512x1024 .f32) (R : FVec Ideal S512x128 .f32) (y y' : Fin 512) (r : Fin 1024) (e : Fin 128) {n : ℕ} {hn : n < 1024}
    (hy : y.val = y'.val) (hr : r.val = n) (he : n % 128 = e.val) :
    Scalar.select (IntOp.cmpi CmpIPredicate.slt (BitVec.ofNat 32 e.val) 64#32) (N (ix2 y' ⟨n, hn⟩)) (R (ix2 y' e)) = Kk N R y r := by
  obtain rfl : y = y' := Fin.ext hy
  subst hr
  rw [lane_lt, Kk]
  simp only [he]

end Cert.InIdeal.Value
-- ==== Proof.InRun.lean ====
module
public import proofs.«01_k».proof.Proof.Gen.InIdeal.Value
public import proofs.«01_k».proof.Proof.InSpec
public import Idealize.ShloMosaic.Lib.Pointwise
public import Idealize.ShloMosaic.Lib.Pipeline.ValueKit
public import Idealize.ShloMosaic.Lib.WritesUnit

/-! The scratch of the mixers' inputs: the unit rows of the block, behind the last thirty-two rows of the block before. -/

@[expose] public section
set_option maxRecDepth 16384
noncomputable section
namespace Cert.InIdeal.Value
open Idealize.ShloMosaic Idealize.ShloMosaic.TcCoe Idealize.SL.Sem Cert.InIdeal Cert.InIdeal.Gen
open Cert.InSpec

/-- The store of the block's unit rows into the scratch. -/
abbrev pieceG (G : Vec Ideal S512x512 .f32) : View.Piece (Elt Ideal) S544x512 .f32 :=
  ⟨Rect.unit ![32, 0] ![512, 512] inb_S544x512_S512x512_32_0, G⟩
/-- The store of thirty-two rows at the top of the scratch. -/
abbrev pieceH (Z : Vec Ideal S32x512 .f32) : View.Piece (Elt Ideal) S544x512 .f32 :=
  ⟨Rect.unit ![0, 0] ![32, 512] inb_S544x512_S32x512_0_0, Z⟩

/-- The rows of the scratch the block's unit rows fill. -/
theorem mem_G (G : Vec Ideal S512x512 .f32) (r : Fin 544) (f : Fin 512) : ix2 r f ∈ (pieceG G).1.set ↔ 32 ≤ r.val := by
  rw [Rect.mem_set_unit, Fin.forall_fin_two]
  show (32 ≤ r.val ∧ r.val < 32 + 512) ∧ (0 ≤ f.val ∧ f.val < 0 + 512) ↔ _
  omega

/-- The rows of the scratch the thirty-two rows fill. -/
theorem mem_H (Z : Vec Ideal S32x512 .f32) (r : Fin 544) (f : Fin 512) : ix2 r f ∈ (pieceH Z).1.set ↔ r.val < 32 := by
  rw [Rect.mem_set_unit, Fin.forall_fin_two]
  show (0 ≤ r.val ∧ r.val < 0 + 32) ∧ (0 ≤ f.val ∧ f.val < 0 + 512) ↔ _
  omega

/-- A row of the scratch, when the unit rows were stored last. -/
theorem canon_G (G : Vec Ideal S512x512 .f32) (L : List (View.Piece (Elt Ideal) S544x512 .f32)) (r : Fin 544) (f : Fin 512) :
    View.canon (pieceG G :: L) (ix2 r f) = if h : 32 ≤ r.val then G (ix2 ⟨r.val - 32, by omega⟩ f) else View.canon L (ix2 r f) := by
  by_cases h : 32 ≤ r.val
  · rw [dif_pos h]
    refine Eq.trans (congrArg _ ?_) (View.canon_cons_emb (pieceG G).1 G L (ix2 ⟨r.val - 32, by omega⟩ f))
    funext a
    apply Fin.ext
    revert a
    rw [Fin.forall_fin_two]
    exact ⟨show r.val = 32 + 1 * (r.val - 32) by omega, show f.val = 0 + 1 * f.val by omega⟩
  · rw [dif_neg h]
    exact View.canon_cons_of_not_mem _ _ fun h' => h ((mem_G G r f).1 h')

/-- A row of the scratch, when the thirty-two rows were stored last. -/
theorem canon_H (Z : Vec Ideal S32x512 .f32) (L : List (View.Piece (Elt Ideal) S544x512 .f32)) (r : Fin 544) (f : Fin 512) :
    View.canon (pieceH Z :: L) (ix2 r f) = if h : r.val < 32 then Z (ix2 ⟨r.val, h⟩ f) else View.canon L (ix2 r f) := by
  by_cases h : r.val < 32
  · rw [dif_pos h]
    refine Eq.trans (congrArg _ ?_) (View.canon_cons_emb (pieceH Z).1 Z L (ix2 ⟨r.val, h⟩ f))
    funext a
    apply Fin.ext
    revert a
    rw [Fin.forall_fin_two]
    exact ⟨show r.val = 0 + 1 * r.val by omega, show f.val = 0 + 1 * f.val by omega⟩
  · rw [dif_neg h]
    exact View.canon_cons_of_not_mem _ _ fun h' => h ((mem_H Z r f).1 h')

variable {sg : RefSig} {κ : Kind} {sp : Space} (v : View sg κ sp S544x512 .f32)

/-- What a row read from row `o` on is: a unit row of the block, or one of the thirty-two rows. -/
def shifted (G : Vec Ideal S512x512 .f32) (Z : Fin 32 → Fin 512 → EReal) (o : ℕ) (y : Fin 512) (f : Fin 512) : EReal :=
  if h : 32 ≤ o + y.val then (if h' : o + y.val - 32 < 512 then G (ix2 ⟨o + y.val - 32, h'⟩ f) else 0) else Z ⟨o + y.val, by omega⟩ f

/-- The shifted unit rows a first block reads. -/
theorem read_first (G : Vec Ideal S512x512 .f32) (Z : Vec Ideal S32x512 .f32) {o : ℕ} (ho : o ≤ 32)
    (inb : ∀ a : Fin 2, (![o, 0] : Fin 2 → ℕ) a + (![512, 512] : Fin 2 → ℕ) a ≤ S544x512.size a) (y : Fin 512) (f : Fin 512) :
    v.readCov [pieceG G, pieceH Z] (Rect.unit (s := S544x512) ![o, 0] ![512, 512] inb).toLoadRect (ix2 y f) = shifted G (fun r f => Z (ix2 r f)) o y f := by
  have hidx : (Rect.unit (s := S544x512) ![o, 0] ![512, 512] inb).toLoadRect.idx (ix2 y f) = ix2 (⟨o + y.val, by omega⟩ : Fin 544) f := by
    funext a
    apply Fin.ext
    revert a
    rw [Fin.forall_fin_two]
    exact ⟨show o + 1 * y.val = o + y.val by omega, show 0 + 1 * f.val = f.val by omega⟩
  refine Eq.trans (View.read_writes_apply_eq_canon v v.junk _ _ ?_) ?_
  · rw [hidx]
    by_cases h : 32 ≤ o + y.val
    · exact ⟨_, List.mem_cons_self, (mem_G G _ f).2 h⟩
    · exact ⟨_, List.mem_cons_of_mem _ List.mem_cons_self, (mem_H Z _ f).2 (Nat.lt_of_not_le h)⟩
  · rw [hidx, canon_G, canon_H, shifted]
    by_cases h : 32 ≤ o + y.val
    · rw [dif_pos h, dif_pos h, dif_pos (by omega)]
    · rw [dif_neg h, dif_neg h, dif_pos (by show o + y.val < 32; omega)]

/-- The shifted unit rows a later block reads, over what the scratch held. -/
theorem read_later (G : Vec Ideal S512x512 .f32) (K : v.ty.Contents (Elt Ideal)) (S : Vec Ideal S544x512 .f32) (hK : v.read (Elt Ideal) K = S) {o : ℕ} (ho : o ≤ 32)
    (inb : ∀ a : Fin 2, (![o, 0] : Fin 2 → ℕ) a + (![512, 512] : Fin 2 → ℕ) a ≤ S544x512.size a) (y : Fin 512) (f : Fin 512) :
    View.ld (v.read (Elt Ideal) (v.writes (Elt Ideal) K [pieceG G])) (Rect.unit (s := S544x512) ![o, 0] ![512, 512] inb) (ix2 y f)
      = shifted G (fun r f => S (ix2 ⟨r.val, by omega⟩ f)) o y f := by
  have hidx : (Rect.unit (s := S544x512) ![o, 0] ![512, 512] inb).emb (ix2 y f) = ix2 (⟨o + y.val, by omega⟩ : Fin 544) f := by
    funext a
    apply Fin.ext
    revert a
    rw [Fin.forall_fin_two]
    exact ⟨show o + 1 * y.val = o + y.val by omega, show 0 + 1 * f.val = f.val by omega⟩
  refine Eq.trans (b := v.read (Elt Ideal) (v.writes (Elt Ideal) K [pieceG G]) ((Rect.unit (s := S544x512) ![o, 0] ![512, 512] inb).emb (ix2 y f))) rfl ?_
  rw [hidx, shifted]
  by_cases h : 32 ≤ o + y.val
  · rw [dif_pos h, dif_pos (by omega)]
    exact View.read_writes_cons_rows_of_mem v K _ _ _ _ (ix2 ⟨o + y.val - 32, by omega⟩ f) rfl (show o + y.val = 32 + (o + y.val - 32) by omega) rfl
  · rw [dif_neg h]
    refine Eq.trans (View.read_writes_cons_rows_of_not_mem (W := 512) v K _ _ _ _ rfl rfl (Or.inl (show o + y.val < 32 by omega))) ?_
    rw [View.writes_nil, hK]

/-- The same of the scratch itself, which held `S`. -/
theorem read_scratch (G : Vec Ideal S512x512 .f32) (S : Vec Ideal S544x512 .f32) (h : (Memref.whole cc0_scratch0).IsWhole) {o : ℕ} (ho : o ≤ 32)
    (inb : ∀ a : Fin 2, (![o, 0] : Fin 2 → ℕ) a + (![512, 512] : Fin 2 → ℕ) a ≤ S544x512.size a) (y : Fin 512) (f : Fin 512) :
    View.ld ((View.whole cc0_scratch0).read (Elt Ideal) ((View.whole cc0_scratch0).writes (Elt Ideal) (h.unread S) [pieceG G]))
        (Rect.unit (s := S544x512) ![o, 0] ![512, 512] inb) (ix2 y f)
      = shifted G (fun r f => S (ix2 ⟨r.val, by omega⟩ f)) o y f :=
  read_later (View.whole cc0_scratch0) G (h.unread S) S (h.read_unread S) ho inb y f

/-- The block's own unit rows, read back. -/
theorem read_own (G : Vec Ideal S512x512 .f32) (inb : ∀ a : Fin 2, (![32, 0] : Fin 2 → ℕ) a + (![512, 512] : Fin 2 → ℕ) a ≤ S544x512.size a) (y : Fin 512) (f : Fin 512) :
    v.readCov [pieceG G] (Rect.unit (s := S544x512) ![32, 0] ![512, 512] inb).toLoadRect (ix2 y f) = G (ix2 y f) := by
  have hidx : (Rect.unit (s := S544x512) ![32, 0] ![512, 512] inb).toLoadRect.idx (ix2 y f) = ix2 (⟨32 + y.val, by omega⟩ : Fin 544) f := by
    funext a
    apply Fin.ext
    revert a
    rw [Fin.forall_fin_two]
    exact ⟨show 32 + 1 * y.val = 32 + y.val by omega, show 0 + 1 * f.val = f.val by omega⟩
  refine Eq.trans (View.read_writes_apply_eq_canon v v.junk _ _ ?_) ?_
  · rw [hidx]
    exact ⟨_, List.mem_cons_self, (mem_G G _ f).2 (by show 32 ≤ 32 + y.val; omega)⟩
  · rw [hidx, canon_G, dif_pos (by show 32 ≤ 32 + y.val; omega)]
    congr 2
    apply Fin.ext
    show 32 + y.val - 32 = y.val
    omega

/-- The thirty-two rows kept for the next block are the block's last unit rows. -/
theorem kept (G : Vec Ideal S512x512 .f32) (L L' : List (View.Piece (Elt Ideal) S544x512 .f32)) (r : Fin 544) (hr : r.val < 32) (f : Fin 512) :
    View.canon (pieceH (k0_pay89 (v.readCov (pieceG G :: L) (Rect.unit (s := S544x512) ![512, 0] ![32, 512] inb_S544x512_S32x512_512_0).toLoadRect)) :: L') (ix2 r f)
      = G (ix2 ⟨480 + r.val, by omega⟩ f) := by
  rw [canon_H, dif_pos hr]
  have hidx : (Rect.unit (s := S544x512) ![512, 0] ![32, 512] inb_S544x512_S32x512_512_0).toLoadRect.idx (ix2 (⟨r.val, hr⟩ : Fin 32) f) = ix2 (⟨512 + r.val, by omega⟩ : Fin 544) f := by
    funext a
    apply Fin.ext
    revert a
    rw [Fin.forall_fin_two]
    exact ⟨show 512 + 1 * r.val = 512 + r.val by omega, show 0 + 1 * f.val = f.val by omega⟩
  refine Eq.trans (b := v.readCov (pieceG G :: L) (Rect.unit (s := S544x512) ![512, 0] ![32, 512] inb_S544x512_S32x512_512_0).toLoadRect (ix2 ⟨r.val, hr⟩ f)) ?_ ?_
  · unfold k0_pay89
    pointwise
  refine Eq.trans (View.read_writes_apply_eq_canon v v.junk _ _ ?_) ?_
  · rw [hidx]
    exact ⟨_, List.mem_cons_self, (mem_G G _ f).2 (by show 32 ≤ 512 + r.val; omega)⟩
  · rw [hidx, canon_G, dif_pos (by show 32 ≤ 512 + r.val; omega)]
    congr 2
    apply Fin.ext
    show 512 + r.val - 32 = 480 + r.val
    omega

end Cert.InIdeal.Value
-- ==== Proof.InToken.lean ====
module
public import proofs.«01_k».proof.Proof.InCols
public import proofs.«01_k».proof.Proof.InBlock
public import proofs.«01_k».proof.Proof.InTiles
public import proofs.«01_k».proof.Proof.InRun

/-! What a grid point of the mixers' inputs computes for each of its tokens. -/

@[expose] public section
set_option maxRecDepth 16384
noncomputable section
namespace Cert.InIdeal.Value
open Idealize.ShloMosaic Idealize.ShloMosaic.TcCoe Idealize.SL.Sem Cert.InIdeal Cert.InIdeal.Gen
open Idealize.ShloMosaic.Pipeline (Dat)
open Cert.InSpec

section
variable (W : Weights) (T : Token)

/-- The queries, from the scaled queries before the rotation. -/
theorem Qk_eq (M : FVec Ideal S768x512 .f32) (c s : FVec Ideal S16x512 .f32) (r : Fin 1024) (y : Fin 512) (hM : ∀ k, M (ix2 k y) = query W T k * scale)
    (hc : ∀ i, c (ix2 i y) = cs T i) (hs : ∀ i, s (ix2 i y) = sn T i) : Qk M c s r y = qOut W T r := by
  unfold Qk qOut padded join rotary
  simp only [hM, hc, hs, sub_scale, add_scale]
  by_cases h1 : r.val % 128 < 96
  · by_cases h2 : r.val % 128 < 64
    · simp only [h1, h2, dite_true]
    · by_cases h3 : r.val % 128 - 64 < 16
      · simp only [h1, h2, h3, dite_true, dite_false]
      · simp only [h1, h2, h3, dite_true, dite_false]
  · simp only [h1, dite_false]

/-- The keys, from each head's entries and the rotated key. -/
theorem Kk_eq (N : FVec Ideal S512x1024 .f32) (R : FVec Ideal S512x128 .f32) (y : Fin 512) (r : Fin 1024) (hN : ∀ k, N (ix2 y k) = keyval W T k)
    (hR : ∀ e : Fin 128, 64 ≤ e.val → R (ix2 y e) = if h : e.val < 96 then rotary (fun e => proj W T ⟨640 + e.val, by omega⟩) (cs T) (sn T) ⟨e.val - 64, by omega⟩ else 0) :
    Kk N R y r = kOut W T r := by
  unfold Kk kOut padded join
  by_cases h1 : r.val % 128 < 64
  · rw [if_pos h1, hN, dif_pos (show r.val % 128 < 96 by omega), dif_pos h1]
    exact congrArg _ (Fin.ext (by show r.val = r.val / 128 * 128 + r.val % 128; omega))
  · rw [if_neg h1, hR _ (by show 64 ≤ r.val % 128; omega)]
    by_cases h2 : r.val % 128 < 96
    · rw [dif_pos h2, dif_pos h2, dif_neg h1]
    · rw [dif_neg h2, dif_neg h2]

/-- The rotation, as the kernel computes it: from the entries and the entries with their halves swapped and the first negated. -/
theorem rotary_swapped (p : Fin 1696 → EReal) (c s : Fin 16 → EReal) (d : Fin 32) (a b C S : EReal)
    (ha : a = p ⟨640 + d.val, by omega⟩)
    (hb : b = if h : d.val < 16 then -p ⟨640 + (16 + d.val), by omega⟩ else p ⟨640 + (d.val - 16), by omega⟩)
    (hC : C = c ⟨d.val % 16, by omega⟩) (hS : S = s ⟨d.val % 16, by omega⟩) :
    a * C + b * S = rotary (fun e => p ⟨640 + e.val, by omega⟩) c s d := by
  subst ha hC hS
  unfold rotary
  by_cases h : d.val < 16
  · have e : (⟨d.val % 16, by omega⟩ : Fin 16) = ⟨d.val, h⟩ := Fin.ext (Nat.mod_eq_of_lt h)
    rw [dif_pos h] at hb ⊢
    rw [hb, e, EReal.neg_mul, sub_eq_add_neg]
  · have e : (⟨d.val % 16, by omega⟩ : Fin 16) = ⟨d.val - 16, by omega⟩ := Fin.ext (by show d.val % 16 = d.val - 16; omega)
    rw [dif_neg h] at hb ⊢
    rw [hb, e, add_comm]
    exact congrArg₂ (· + ·) rfl (congrArg₂ (· * ·) (congrArg p (Fin.ext (by show 640 + d.val = 640 + (16 + (d.val - 16)); omega))) rfl)
end

variable (m : (ℓ : Loc nD τ sig) → Buf (Elt Ideal) ℓ) (c : Dev nD) (t : Fin cfg0.N) (y : Fin 512)

/-- The weights of a device. -/
abbrev DW : Weights := (A m c).W
/-- The tokens of a grid point's sequence. -/
abbrev DT : Fin 4096 → Token := (A m c).T (pb t)

/-- The rearranged projection's columns that stayed in place. -/
theorem col_low (n : ℕ) (hn : n < 640) :
    k0_pay2 (iblk m c 1 t) (iblk m c 2 t) (iblk m c 3 t) (ix2 y ⟨n, by omega⟩) = proj (DW m c) (DT m c t (pos t y)) ⟨n, by omega⟩ := by
  refine (pay2_apply _ _ _ y _).trans (Finset.sum_congr rfl fun k _ => congrArg₂ (· * ·) ?_ (block3_low m c t k n hn))
  exact congrArg₂ (fun u g => rms _ u g k) (funext fun j => block1 m c t y j) (funext fun j => block2 m c t j)

/-- Its columns of the gated linear unit. -/
theorem col_unit (n : ℕ) (hn : n < 1024) :
    k0_pay2 (iblk m c 1 t) (iblk m c 2 t) (iblk m c 3 t) (ix2 y ⟨640 + n, by omega⟩) = proj (DW m c) (DT m c t (pos t y)) ⟨672 + n, by omega⟩ := by
  refine (pay2_apply _ _ _ y _).trans (Finset.sum_congr rfl fun k _ => congrArg₂ (· * ·) ?_ (block3_unit m c t k n hn))
  exact congrArg₂ (fun u g => rms _ u g k) (funext fun j => block1 m c t y j) (funext fun j => block2 m c t j)

/-- Its columns of the rotary key. -/
theorem col_key (n : ℕ) (hn : n < 32) :
    k0_pay2 (iblk m c 1 t) (iblk m c 2 t) (iblk m c 3 t) (ix2 y ⟨1664 + (64 + n), by omega⟩) = proj (DW m c) (DT m c t (pos t y)) ⟨640 + n, by omega⟩ := by
  refine (pay2_apply _ _ _ y _).trans (Finset.sum_congr rfl fun k _ => congrArg₂ (· * ·) ?_ (block3_key m c t k n hn))
  exact congrArg₂ (fun u g => rms _ u g k) (funext fun j => block1 m c t y j) (funext fun j => block2 m c t j)

/-- The norm's weights and the rotary key's columns are reals. -/
abbrev Finite : Prop :=
  (∀ k, ∃ r : ℝ, (A m c).gx (ix2 0 k) = r) ∧ ∀ k (e : Fin 32), ∃ r : ℝ, (A m c).win (ix3 0 k ⟨640 + e.val, by omega⟩) = r

/-- Its columns of the rotary key with their halves swapped and the first negated. -/
theorem col_swapped (hf : Finite m c) (d : Fin 32) :
    k0_pay2 (iblk m c 1 t) (iblk m c 2 t) (iblk m c 3 t) (ix2 y ⟨1792 + (64 + d.val), by omega⟩)
      = if h : d.val < 16 then -proj (DW m c) (DT m c t (pos t y)) ⟨640 + (16 + d.val), by omega⟩
        else proj (DW m c) (DT m c t (pos t y)) ⟨640 + (d.val - 16), by omega⟩ := by
  by_cases h : d.val < 16
  · rw [dif_pos h]
    refine (pay2_apply _ _ _ y _).trans (Eq.trans (Finset.sum_congr rfl fun k _ => congrArg₂ (· * ·) ?_ (block3_first m c t k d.val h)) (sum_mul_neg _ _ ?_ ?_))
    · exact congrArg₂ (fun u g => rms _ u g k) (funext fun j => block1 m c t y j) (funext fun j => block2 m c t j)
    · exact rms_real _ _ hf.1
    · exact fun k => hf.2 k ⟨16 + d.val, by omega⟩
  · rw [dif_neg h]
    obtain ⟨e, he⟩ : ∃ e, d.val = 16 + e := ⟨d.val - 16, by omega⟩
    have h1 : (⟨1792 + (64 + d.val), by omega⟩ : Fin 1920) = ⟨1792 + (80 + e), by omega⟩ := Fin.ext (by show 1792 + (64 + d.val) = 1792 + (80 + e); omega)
    have h2 : (⟨640 + (d.val - 16), by omega⟩ : Fin 1696) = ⟨640 + e, by omega⟩ := Fin.ext (by show 640 + (d.val - 16) = 640 + e; omega)
    rw [h1, h2]
    refine (pay2_apply _ _ _ y _).trans (Finset.sum_congr rfl fun k _ => congrArg₂ (· * ·) ?_ (block3_second m c t k e (by omega)))
    exact congrArg₂ (fun u g => rms _ u g k) (funext fun j => block1 m c t y j) (funext fun j => block2 m c t j)

/-- The cosines of a grid point's tokens. -/
theorem cos_eq (i : Fin 16) : k0_pay9 (iblk m c 9 t) (iblk m c 0 t) (ix2 i y) = cs (DT m c t (pos t y)) i := by
  refine (pay9_apply _ _ y i).trans (congrArg Ideal.cos ((mul_comm _ _).trans ?_))
  exact congrArg₂ (· * ·) (congrArg (FloatOps.sitofp (F := Ideal) .f32) (block0 m c t y)) (block9 m c t i)

/-- The sines of a grid point's tokens. -/
theorem sin_eq (i : Fin 16) : k0_pay10 (iblk m c 9 t) (iblk m c 0 t) (ix2 i y) = sn (DT m c t (pos t y)) i := by
  refine (pay10_apply _ _ y i).trans (congrArg Ideal.sin ((mul_comm _ _).trans ?_))
  exact congrArg₂ (· * ·) (congrArg (FloatOps.sitofp (F := Ideal) .f32) (block0 m c t y)) (block9 m c t i)

/-- The scaled queries before the rotation of a grid point's tokens. -/
theorem query_eq (k : Fin 768) :
    k0_pay11 (k0_pay3 (iblk m c 1 t) (iblk m c 2 t) (iblk m c 3 t) (iblk m c 4 t)) (iblk m c 5 t) (ix2 k y) = query (DW m c) (DT m c t (pos t y)) k * scale := by
  refine (pay11_apply _ y _ k).trans (congrArg (· * scale) (Finset.sum_congr rfl fun r _ => (mul_comm _ _).trans (congrArg₂ (· * ·) ?_ (block5 m c t k r))))
  refine (pay3_apply _ _ _ _ y r).trans ?_
  exact congrArg₂ (fun u g => rms _ u g r) (funext fun r => col_low m c t y r.val (by omega)) (funext fun r => block4 m c t r)

/-- The normalized input of a grid point's keys and values. -/
theorem normed_eq (r : Fin 256) :
    k0_pay7 (k0_pay4 (iblk m c 1 t) (iblk m c 2 t) (iblk m c 3 t)) (k0_pay5 (iblk m c 6 t)) (k0_pay6 (iblk m c 1 t) (iblk m c 2 t) (iblk m c 3 t)) (ix2 y r)
      = rms (Ideal.ofBits .f32 0x43800000#32) (fun r : Fin 256 => proj (DW m c) (DT m c t (pos t y)) ⟨384 + r.val, by omega⟩) (DW m c).gkv r := by
  refine (pay7_apply _ _ _ _ y r).trans ?_
  exact congrArg₂ (fun u g => rms _ u g r) (funext fun r => col_low m c t y (384 + r.val) (by omega)) (funext fun r => block6 m c t r)

/-- The keys without their rotated part of a grid point's tokens. -/
theorem keyval_eq (k : Fin 1024) :
    k0_pay65 (k0_pay7 (k0_pay4 (iblk m c 1 t) (iblk m c 2 t) (iblk m c 3 t)) (k0_pay5 (iblk m c 6 t)) (k0_pay6 (iblk m c 1 t) (iblk m c 2 t) (iblk m c 3 t))) (iblk m c 7 t) (ix2 y k)
      = keyval (DW m c) (DT m c t (pos t y)) k :=
  (pay65_apply _ y _ k).trans (Finset.sum_congr rfl fun r _ => congrArg₂ (· * ·) (normed_eq m c t y r) (block7 m c t r k))

/-- The values of a grid point's tokens. -/
theorem value_eq (r : Fin 512) :
    k0_pay75 (k0_pay7 (k0_pay4 (iblk m c 1 t) (iblk m c 2 t) (iblk m c 3 t)) (k0_pay5 (iblk m c 6 t)) (k0_pay6 (iblk m c 1 t) (iblk m c 2 t) (iblk m c 3 t))) (iblk m c 8 t) (ix4 0 0 r y)
      = vOut (DW m c) (DT m c t (pos t y)) r :=
  (pay75_apply _ y _ r).trans (Finset.sum_congr rfl fun j _ => (mul_comm _ _).trans (congrArg₂ (· * ·) (normed_eq m c t y j) (block8 m c t r j)))

/-- The rotated key of a grid point's tokens. -/
theorem key_eq (hf : Finite m c) (e : Fin 128) (h64 : 64 ≤ e.val) :
    k0_pay64 (k0_pay2 (iblk m c 1 t) (iblk m c 2 t) (iblk m c 3 t)) (k0_pay9 (iblk m c 9 t) (iblk m c 0 t)) (k0_pay10 (iblk m c 9 t) (iblk m c 0 t)) (ix2 y e)
      = if h : e.val < 96 then rotary (fun e => proj (DW m c) (DT m c t (pos t y)) ⟨640 + e.val, by omega⟩) (cs (DT m c t (pos t y))) (sn (DT m c t (pos t y))) ⟨e.val - 64, by omega⟩ else 0 := by
  refine (pay64_apply y _ _ _ e).trans ?_
  by_cases h : e.val < 96
  · rw [dif_pos ⟨h64, h⟩, dif_pos h, cos_eq, sin_eq]
    obtain ⟨d, hd⟩ : ∃ d : Fin 32, e.val = 64 + d.val := ⟨⟨e.val - 64, by omega⟩, by show e.val = 64 + (e.val - 64); omega⟩
    have h1 : (⟨1664 + e.val, by omega⟩ : Fin 1920) = ⟨1664 + (64 + d.val), by omega⟩ := Fin.ext (congrArg (1664 + ·) hd)
    have h2 : (⟨1792 + e.val, by omega⟩ : Fin 1920) = ⟨1792 + (64 + d.val), by omega⟩ := Fin.ext (congrArg (1792 + ·) hd)
    have h3 : (⟨e.val - 64, by omega⟩ : Fin 32) = d := Fin.ext (by show e.val - 64 = d.val; omega)
    rw [h1, h2, h3]
    exact rotary_swapped _ _ _ d _ _ _ _ (col_key m c t y d.val d.isLt) (col_swapped m c t y hf d)
      (congrArg _ (Fin.ext (by show (e.val - 64) % 16 = d.val % 16; omega))) (congrArg _ (Fin.ext (by show (e.val - 64) % 16 = d.val % 16; omega)))
  · rw [dif_neg h, dif_neg fun h' => h h'.2]

/-- The gated linear unit of a grid point's tokens. -/
theorem unit_eq (f : Fin 512) :
    k0_pay77 (k0_pay2 (iblk m c 1 t) (iblk m c 2 t) (iblk m c 3 t)) (ix2 y f) = unit (DW m c) (DT m c t (pos t y)) f := by
  refine (pay77_apply y _ f).trans ?_
  refine congrArg₂ (fun a g => glu a g f) (funext fun f => col_unit m c t y f.val (by omega)) (funext fun f => ?_)
  refine Eq.trans (congrArg (fun n => k0_pay2 (iblk m c 1 t) (iblk m c 2 t) (iblk m c 3 t) (ix2 y n)) (Fin.ext ?_)) (col_unit m c t y (512 + f.val) (by omega))
  show 1152 + f.val = 640 + (512 + f.val)
  omega

end Cert.InIdeal.Value
-- ==== Proof.InKeys.lean ====
module
public import proofs.«01_k».proof.Proof.InTiles

/-! The keys a grid point of the mixers' inputs stores, head by head. -/

@[expose] public section
set_option maxRecDepth 16384
noncomputable section
namespace Cert.InIdeal.Value
open Idealize.ShloMosaic Idealize.ShloMosaic.TcCoe Idealize.SL.Sem Cert.InIdeal Cert.InIdeal.Gen
open Idealize.ShloMosaic.Pipeline (Dat)
open Cert.InSpec
variable (m : (ℓ : Loc nD τ sig) → Buf (Elt Ideal) ℓ) (c : Dev nD) (t : Fin cfg0.N)

/-- The keys' block of a grid point. -/
theorem k_block (z : S1x512x1024.Idx) :
    (outsAt0 m c t.val t.isLt).2.1 z = Kk (k0_pay65 (k0_pay7 (k0_pay4 (iblk m c 1 t) (iblk m c 2 t) (iblk m c 3 t)) (k0_pay5 (iblk m c 6 t)) (k0_pay6 (iblk m c 1 t) (iblk m c 2 t) (iblk m c 3 t))) (iblk m c 7 t))
      (k0_pay64 (k0_pay2 (iblk m c 1 t) (iblk m c 2 t) (iblk m c 3 t)) (k0_pay9 (iblk m c 9 t) (iblk m c 0 t)) (k0_pay10 (iblk m c 9 t) (iblk m c 0 t))) (z 1) (z 2) := by
  by_cases h0 : t.val % 8 = 0
  · rw [outsAt0_A m c t h0]
    frame_out
    clear h0
    canon_tiles x h
    all_goals
      pointwise [k0_pay66, k0_pay67, k0_pay68, k0_pay69, k0_pay70, k0_pay71, k0_pay72, k0_pay73, k0_pay74, h0, h1, h2]
      exact Kk_piece _ _ _ _ _ _ h1 (by omega) (by omega)
  · rw [outsAt0_B m c t h0]
    frame_out
    clear h0
    canon_tiles x h
    all_goals
      pointwise [k0_pay66, k0_pay67, k0_pay68, k0_pay69, k0_pay70, k0_pay71, k0_pay72, k0_pay73, k0_pay74, h0, h1, h2]
      exact Kk_piece _ _ _ _ _ _ h1 (by omega) (by omega)
end Cert.InIdeal.Value
-- ==== Proof.InQueries.lean ====
module
public import proofs.«01_k».proof.Proof.InTiles

/-! The queries a grid point of the mixers' inputs stores, head by head. -/

@[expose] public section
set_option maxRecDepth 16384
noncomputable section
namespace Cert.InIdeal.Value
open Idealize.ShloMosaic Idealize.ShloMosaic.TcCoe Idealize.SL.Sem Cert.InIdeal Cert.InIdeal.Gen
open Idealize.ShloMosaic.Pipeline (Dat)
open Cert.InSpec
variable (m : (ℓ : Loc nD τ sig) → Buf (Elt Ideal) ℓ) (c : Dev nD) (t : Fin cfg0.N)

set_option maxHeartbeats 4000000 in
/-- The queries' block of a grid point. -/
theorem q_block (z : S1x1024x512.Idx) :
    (outsAt0 m c t.val t.isLt).1 z = Qk (k0_pay11 (k0_pay3 (iblk m c 1 t) (iblk m c 2 t) (iblk m c 3 t) (iblk m c 4 t)) (iblk m c 5 t))
      (k0_pay9 (iblk m c 9 t) (iblk m c 0 t)) (k0_pay10 (iblk m c 9 t) (iblk m c 0 t)) (z 1) (z 2) := by
  by_cases h0 : t.val % 8 = 0
  · rw [outsAt0_A m c t h0]
    frame_out
    clear h0
    canon_tiles x h using View.cover_of_tiledBy _ ![1, 16, 512] (by sl_kernel_rfl) _
    all_goals
      have hz : z 2 = x 2 := Fin.ext h2
      rw [hz]
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, h0, h1, h2]
      clear hz h0 h2 x0_lt x2_lt
      generalize k0_pay11 (k0_pay3 (iblk m c 1 t) (iblk m c 2 t) (iblk m c 3 t) (iblk m c 4 t)) (iblk m c 5 t) = M
      generalize k0_pay9 (iblk m c 9 t) (iblk m c 0 t) = u
      generalize k0_pay10 (iblk m c 9 t) (iblk m c 0 t) = v
      first
        | exact Qk_plain _ _ _ _ _ (by omega) (by omega)
        | exact Qk_first _ _ _ _ _ (by omega) (by omega) (by omega)
        | exact Qk_second _ _ _ _ _ (by omega) (by omega) (by omega)
        | exact Qk_zero _ _ _ _ _ (by omega)
  · rw [outsAt0_B m c t h0]
    frame_out
    clear h0
    canon_tiles x h using View.cover_of_tiledBy _ ![1, 16, 512] (by sl_kernel_rfl) _
    all_goals
      have hz : z 2 = x 2 := Fin.ext h2
      rw [hz]
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, h0, h1, h2]
      clear hz h0 h2 x0_lt x2_lt
      generalize k0_pay11 (k0_pay3 (iblk m c 1 t) (iblk m c 2 t) (iblk m c 3 t) (iblk m c 4 t)) (iblk m c 5 t) = M
      generalize k0_pay9 (iblk m c 9 t) (iblk m c 0 t) = u
      generalize k0_pay10 (iblk m c 9 t) (iblk m c 0 t) = v
      first
        | exact Qk_plain _ _ _ _ _ (by omega) (by omega)
        | exact Qk_first _ _ _ _ _ (by omega) (by omega) (by omega)
        | exact Qk_second _ _ _ _ _ (by omega) (by omega) (by omega)
        | exact Qk_zero _ _ _ _ _ (by omega)

end Cert.InIdeal.Value
-- ==== Proof.InPoint.lean ====
module
public import proofs.«01_k».proof.Proof.InToken
public import proofs.«01_k».proof.Proof.InKeys
public import proofs.«01_k».proof.Proof.InQueries

/-! The results of the mixers' inputs are the reference's, entry by entry. -/

@[expose] public section
set_option maxRecDepth 16384
noncomputable section
namespace Cert.InIdeal.Value
open Idealize.ShloMosaic Idealize.ShloMosaic.TcCoe Idealize.SL.Sem Cert.InIdeal Cert.InIdeal.Gen
open Idealize.ShloMosaic.Pipeline (Dat)
open Cert.InSpec

variable (m : (ℓ : Loc nD τ sig) → Buf (Elt Ideal) ℓ) (c : Dev nD) (t : Fin cfg0.N)

/-- One entry of the queries' block. -/
theorem point_q (r : Fin 1024) (y : Fin 512) : (outsAt0 m c t.val t.isLt).1 (ix3 0 r y) = qOut (DW m c) (DT m c t (pos t y)) r :=
  (q_block m c t (ix3 0 r y)).trans (Qk_eq _ _ _ _ _ r y (query_eq m c t y) (cos_eq m c t y) (sin_eq m c t y))

/-- One entry of the keys' block. -/
theorem point_k (hf : Finite m c) (y : Fin 512) (r : Fin 1024) : (outsAt0 m c t.val t.isLt).2.1 (ix3 0 y r) = kOut (DW m c) (DT m c t (pos t y)) r :=
  (k_block m c t (ix3 0 y r)).trans (Kk_eq _ _ _ _ y r (keyval_eq m c t y) (key_eq m c t y hf))

/-- One entry of the values' block. -/
theorem point_v (r y : Fin 512) : (outsAt0 m c t.val t.isLt).2.2.1 (ix4 0 0 r y) = vOut (DW m c) (DT m c t (pos t y)) r := by
  by_cases h0 : t.val % 8 = 0
  · rw [outsAt0_A m c t h0]
    frame_out
    exact value_eq m c t y r
  · rw [outsAt0_B m c t h0]
    frame_out
    exact value_eq m c t y r

/-- What every grid point leaves at the top of the scratch: the unit rows of the block's last thirty-two tokens. -/
theorem scratch (r : Fin 544) (hr : r.val < 32) (f : Fin 512) :
    (outsAt0 m c t.val t.isLt).2.2.2.2 (ix2 r f) = unit (DW m c) (DT m c t (pos t ⟨480 + r.val, by omega⟩)) f := by
  by_cases h0 : t.val % 8 = 0
  · rw [outsAt0_A m c t h0]
    frame_out
    exact (kept _ _ _ _ r hr f).trans (unit_eq m c t _ f)
  · rw [outsAt0_B m c t h0]
    frame_out
    exact (kept _ _ _ _ r hr f).trans (unit_eq m c t _ f)

/-- The unit rows shifted by `k`: those of the `k`-th token before, or none at the start of the sequence. -/
theorem shifted_eq (G : Vec Ideal S512x512 .f32) (hG : ∀ y f, G (ix2 y f) = unit (DW m c) (DT m c t (pos t y)) f)
    (Z : Fin 32 → Fin 512 → EReal) (k o : ℕ) (ho : o + k = 32)
    (hZ : ∀ (r : Fin 32) f, Z r f = unitBefore (DW m c) (DT m c t) (pos t ⟨r.val, by omega⟩) 32 f) (y : Fin 512) (f : Fin 512) :
    shifted G Z o y f = unitBefore (DW m c) (DT m c t) (pos t y) k f := by
  unfold shifted
  by_cases h : 32 ≤ o + y.val
  · rw [dif_pos h, dif_pos (by omega), hG, unitBefore, if_pos (by simp only [pos]; omega)]
    refine congrArg (fun s => unit (DW m c) (DT m c t s) f) (Fin.ext ?_)
    show 512 * (pi t).val + (o + y.val - 32) = 512 * (pi t).val + y.val - k
    omega
  · rw [dif_neg h, hZ, unitBefore, unitBefore]
    by_cases h0 : k ≤ (pos t y).val
    · rw [if_pos h0, if_pos (by simp only [pos] at h0 ⊢; omega)]
      refine congrArg (fun s => unit (DW m c) (DT m c t s) f) (Fin.ext ?_)
      show 512 * (pi t).val + (o + y.val) - 32 = 512 * (pi t).val + y.val - k
      omega
    · rw [if_neg h0, if_neg (by simp only [pos] at h0 ⊢; omega)]

/-- The zeros before a sequence's first block. -/
theorem zeros (r : Fin 32) (f : Fin 512) : k0_pay76 (F := Ideal) (ix2 r f) = (0 : EReal) := by
  pointwise [k0_pay76]

/-- Before the first block of a sequence there are no unit rows. -/
theorem before_first (h0 : t.val % 8 = 0) (r : Fin 32) (f : Fin 512) :
    k0_pay76 (F := Ideal) (ix2 r f) = unitBefore (DW m c) (DT m c t) (pos t ⟨r.val, by omega⟩) 32 f := by
  have hc := coords t
  have h1 := (pi t).isLt
  simp only [pi] at h1
  rw [zeros, unitBefore, if_neg (by simp only [pos, pi]; omega)]

/-- Before a later block the scratch holds the unit rows of the thirty-two tokens before it. -/
theorem before_later (h0 : ¬t.val % 8 = 0) (r : Fin 32) (f : Fin 512) :
    (outsAt0 m c (t.val - 1) (by omega)).2.2.2.2 (ix2 ⟨r.val, by omega⟩ f)
      = unitBefore (DW m c) (DT m c t) (pos t ⟨r.val, by omega⟩) 32 f := by
  have hc := coords t
  have hc' := coords ⟨t.val - 1, by omega⟩
  have h0 := (pi ⟨t.val - 1, by omega⟩).isLt
  have h1 := (pi t).isLt
  simp only [pi] at h0 h1 hc hc'
  have hb : pb ⟨t.val - 1, by omega⟩ = pb t := by
    apply Fin.ext; simp only [pb]; omega
  refine (scratch m c ⟨t.val - 1, by omega⟩ ⟨r.val, by omega⟩ r.isLt f).trans ?_
  rw [unitBefore, if_pos (by simp only [pos, pi]; omega), DT, hb]
  refine congrArg (fun s => unit (DW m c) (DT m c t s) f) (Fin.ext ?_)
  show 512 * (pi ⟨t.val - 1, by omega⟩).val + (480 + r.val) = 512 * (pi t).val + r.val - 32
  simp only [pi]
  omega

section
variable {sg : RefSig} {κ : Kind} {sp : Space} (v : View sg κ sp S544x512 .f32)

/-- A read of the scratch by a sequence's first block, for the convolution's weight `j`. -/
theorem first_read (h0 : t.val % 8 = 0) (j o : ℕ) (ho : o = 2 + j) (hj : j ≤ 30)
    (inb : ∀ a : Fin 2, (![o, 0] : Fin 2 → ℕ) a + (![512, 512] : Fin 2 → ℕ) a ≤ S544x512.size a) (y : Fin 512) (f : Fin 512) :
    v.readCov [pieceG (k0_pay77 (k0_pay2 (iblk m c 1 t) (iblk m c 2 t) (iblk m c 3 t))), pieceH (k0_pay76 (F := Ideal))] (Rect.unit (s := S544x512) ![o, 0] ![512, 512] inb).toLoadRect (ix2 y f)
      = unitBefore (DW m c) (DT m c t) (pos t y) (30 - j) f :=
  (read_first v _ _ (by omega) inb y f).trans (shifted_eq m c t _ (unit_eq m c t) _ (30 - j) o (by omega) (before_first m c t h0) y f)

/-- A later block's read of its own unit rows, for the convolution's last weight. -/
theorem own_read (inb : ∀ a : Fin 2, (![32, 0] : Fin 2 → ℕ) a + (![512, 512] : Fin 2 → ℕ) a ≤ S544x512.size a) (y : Fin 512) (f : Fin 512) :
    v.readCov [pieceG (k0_pay77 (k0_pay2 (iblk m c 1 t) (iblk m c 2 t) (iblk m c 3 t)))] (Rect.unit (s := S544x512) ![32, 0] ![512, 512] inb).toLoadRect (ix2 y f)
      = unitBefore (DW m c) (DT m c t) (pos t y) (30 - 30) f :=
  (read_own v _ inb y f).trans ((unit_eq m c t y f).trans (if_pos (Nat.zero_le _)).symm)
end

/-- A read of the scratch by a later block, for the convolution's weight `j`. -/
theorem later_read (S : Vec Ideal S544x512 .f32) (hS : ∀ (r : Fin 32) f, S (ix2 ⟨r.val, by omega⟩ f) = unitBefore (DW m c) (DT m c t) (pos t ⟨r.val, by omega⟩) 32 f)
    (h : (Memref.whole cc0_scratch0).IsWhole) (j o : ℕ) (ho : o = 2 + j) (hj : j ≤ 30)
    (inb : ∀ a : Fin 2, (![o, 0] : Fin 2 → ℕ) a + (![512, 512] : Fin 2 → ℕ) a ≤ S544x512.size a) (y : Fin 512) (f : Fin 512) :
    View.ld ((View.whole cc0_scratch0).read (Elt Ideal) ((View.whole cc0_scratch0).writes (Elt Ideal) (h.unread S) [pieceG (k0_pay77 (k0_pay2 (iblk m c 1 t) (iblk m c 2 t) (iblk m c 3 t)))]))
        (Rect.unit (s := S544x512) ![o, 0] ![512, 512] inb) (ix2 y f)
      = unitBefore (DW m c) (DT m c t) (pos t y) (30 - j) f :=
  (read_scratch _ S h (by omega) inb y f).trans (shifted_eq m c t _ (unit_eq m c t) _ (30 - j) o (by omega) hS y f)

/-- The convolution's output from its parts. -/
theorem mixed_of (u : Fin 512 → EReal) (g b : Fin 512 → EReal) (s : Fin 4096) (f : Fin 512)
    (hu : u = conv (DW m c) fun j => unitBefore (DW m c) (DT m c t) s (30 - j)) (hg : g = (DW m c).lg) (hb : b = (DW m c).lb) :
    normed u g b f = mixed (DW m c) (DT m c t) s f := by
  subst hu hg hb
  rfl

/-- A weight of the convolution. -/
theorem weight_eq (f : Fin 512) (j : Fin 31) : iblk m c 10 t (ix2 j f) = (DW m c).cw j.val f := by
  refine (block10 m c t j f).trans ?_
  show _ = if h : j.val < 31 then (A m c).cw (ix3 0 ⟨j.val, h⟩ f) else 0
  rw [dif_pos j.isLt]

set_option maxHeartbeats 2000000 in
/-- One entry of the convolution mixer's block. -/
theorem point_c (y f : Fin 512) : (outsAt0 m c t.val t.isLt).2.2.2.1 (ix3 0 y f) = mixed (DW m c) (DT m c t) (pos t y) f := by
  by_cases h0 : t.val % 8 = 0
  · rw [outsAt0_A m c t h0]
    frame_out
    refine (pay1_apply _ _ y _ f).trans (mixed_of m c t _ _ _ _ f (funext fun f => ?_) (funext fun f => block12 m c t f) (funext fun f => block13 m c t f))
    exact conv_apply (iblk m c 10 t) (iblk m c 11 t) y (DW m c) (fun j => unitBefore (DW m c) (DT m c t) (pos t y) (30 - j)) f (weight_eq m c t f) (block11 m c t f)
        (first_read m c t _ h0 0 2 rfl (by omega) _ y f)
        (first_read m c t _ h0 1 3 rfl (by omega) _ y f)
        (first_read m c t _ h0 2 4 rfl (by omega) _ y f)
        (first_read m c t _ h0 3 5 rfl (by omega) _ y f)
        (first_read m c t _ h0 4 6 rfl (by omega) _ y f)
        (first_read m c t _ h0 5 7 rfl (by omega) _ y f)
        (first_read m c t _ h0 6 8 rfl (by omega) _ y f)
        (first_read m c t _ h0 7 9 rfl (by omega) _ y f)
        (first_read m c t _ h0 8 10 rfl (by omega) _ y f)
        (first_read m c t _ h0 9 11 rfl (by omega) _ y f)
        (first_read m c t _ h0 10 12 rfl (by omega) _ y f)
        (first_read m c t _ h0 11 13 rfl (by omega) _ y f)
        (first_read m c t _ h0 12 14 rfl (by omega) _ y f)
        (first_read m c t _ h0 13 15 rfl (by omega) _ y f)
        (first_read m c t _ h0 14 16 rfl (by omega) _ y f)
        (first_read m c t _ h0 15 17 rfl (by omega) _ y f)
        (first_read m c t _ h0 16 18 rfl (by omega) _ y f)
        (first_read m c t _ h0 17 19 rfl (by omega) _ y f)
        (first_read m c t _ h0 18 20 rfl (by omega) _ y f)
        (first_read m c t _ h0 19 21 rfl (by omega) _ y f)
        (first_read m c t _ h0 20 22 rfl (by omega) _ y f)
        (first_read m c t _ h0 21 23 rfl (by omega) _ y f)
        (first_read m c t _ h0 22 24 rfl (by omega) _ y f)
        (first_read m c t _ h0 23 25 rfl (by omega) _ y f)
        (first_read m c t _ h0 24 26 rfl (by omega) _ y f)
        (first_read m c t _ h0 25 27 rfl (by omega) _ y f)
        (first_read m c t _ h0 26 28 rfl (by omega) _ y f)
        (first_read m c t _ h0 27 29 rfl (by omega) _ y f)
        (first_read m c t _ h0 28 30 rfl (by omega) _ y f)
        (first_read m c t _ h0 29 31 rfl (by omega) _ y f)
        (first_read m c t _ h0 30 32 rfl (by omega) _ y f)
  · have hb := before_later m c t h0
    rw [outsAt0_B m c t h0]
    generalize outsAt0 m c (t.val - 1) _ = q at *
    frame_out
    refine (pay1_apply _ _ y _ f).trans (mixed_of m c t _ _ _ _ f (funext fun f => ?_) (funext fun f => block12 m c t f) (funext fun f => block13 m c t f))
    exact conv_apply (iblk m c 10 t) (iblk m c 11 t) y (DW m c) (fun j => unitBefore (DW m c) (DT m c t) (pos t y) (30 - j)) f (weight_eq m c t f) (block11 m c t f)
        (later_read m c t q.2.2.2.2 hb _ 0 2 rfl (by omega) _ y f)
        (later_read m c t q.2.2.2.2 hb _ 1 3 rfl (by omega) _ y f)
        (later_read m c t q.2.2.2.2 hb _ 2 4 rfl (by omega) _ y f)
        (later_read m c t q.2.2.2.2 hb _ 3 5 rfl (by omega) _ y f)
        (later_read m c t q.2.2.2.2 hb _ 4 6 rfl (by omega) _ y f)
        (later_read m c t q.2.2.2.2 hb _ 5 7 rfl (by omega) _ y f)
        (later_read m c t q.2.2.2.2 hb _ 6 8 rfl (by omega) _ y f)
        (later_read m c t q.2.2.2.2 hb _ 7 9 rfl (by omega) _ y f)
        (later_read m c t q.2.2.2.2 hb _ 8 10 rfl (by omega) _ y f)
        (later_read m c t q.2.2.2.2 hb _ 9 11 rfl (by omega) _ y f)
        (later_read m c t q.2.2.2.2 hb _ 10 12 rfl (by omega) _ y f)
        (later_read m c t q.2.2.2.2 hb _ 11 13 rfl (by omega) _ y f)
        (later_read m c t q.2.2.2.2 hb _ 12 14 rfl (by omega) _ y f)
        (later_read m c t q.2.2.2.2 hb _ 13 15 rfl (by omega) _ y f)
        (later_read m c t q.2.2.2.2 hb _ 14 16 rfl (by omega) _ y f)
        (later_read m c t q.2.2.2.2 hb _ 15 17 rfl (by omega) _ y f)
        (later_read m c t q.2.2.2.2 hb _ 16 18 rfl (by omega) _ y f)
        (later_read m c t q.2.2.2.2 hb _ 17 19 rfl (by omega) _ y f)
        (later_read m c t q.2.2.2.2 hb _ 18 20 rfl (by omega) _ y f)
        (later_read m c t q.2.2.2.2 hb _ 19 21 rfl (by omega) _ y f)
        (later_read m c t q.2.2.2.2 hb _ 20 22 rfl (by omega) _ y f)
        (later_read m c t q.2.2.2.2 hb _ 21 23 rfl (by omega) _ y f)
        (later_read m c t q.2.2.2.2 hb _ 22 24 rfl (by omega) _ y f)
        (later_read m c t q.2.2.2.2 hb _ 23 25 rfl (by omega) _ y f)
        (later_read m c t q.2.2.2.2 hb _ 24 26 rfl (by omega) _ y f)
        (later_read m c t q.2.2.2.2 hb _ 25 27 rfl (by omega) _ y f)
        (later_read m c t q.2.2.2.2 hb _ 26 28 rfl (by omega) _ y f)
        (later_read m c t q.2.2.2.2 hb _ 27 29 rfl (by omega) _ y f)
        (later_read m c t q.2.2.2.2 hb _ 28 30 rfl (by omega) _ y f)
        (later_read m c t q.2.2.2.2 hb _ 29 31 rfl (by omega) _ y f)
        (own_read m c t _ _ y f)

/-- The queries, keys, values and convolution outputs of every token of every sequence. -/
def REFq : FVec Ideal S8x1024x4096 .bf16 := fun i => qOut (DW m c) ((A m c).T (i 0) (i 2)) (i 1)
/-- The keys. -/
def REFk : FVec Ideal S8x4096x1024 .bf16 := fun i => kOut (DW m c) ((A m c).T (i 0) (i 1)) (i 2)
/-- The values, in tiles of 512 tokens. -/
def REFv : FVec Ideal S8x8x512x512 .bf16 := fun i =>
  vOut (DW m c) ((A m c).T (i 0) ⟨(show Fin 8 from i 1).val * 512 + (show Fin 512 from i 3).val, by omega⟩) (i 2)
/-- The convolution mixer's output. -/
def REFc : FVec Ideal S8x4096x512 .bf16 := fun i => mixed (DW m c) ((A m c).T (i 0)) (i 1) (i 2)

/-- The place of a queries' block in the result. -/
theorem place_q (r : Fin 1024) (y : Fin 512) : (win0_14.blk t).view.emb (ix3 0 r y) = ix3 (pb t) r (pos t y) := by
  blk_ext [idx t]
  all_goals first | rfl | (simp only [pb, pi, pos]; omega)

/-- The place of a keys' block in the result. -/
theorem place_k (y : Fin 512) (r : Fin 1024) : (win0_15.blk t).view.emb (ix3 0 y r) = ix3 (pb t) (pos t y) r := by
  blk_ext [idx t]
  all_goals first | rfl | (simp only [pb, pi, pos]; omega)

/-- The place of a values' block in the result. -/
theorem place_v (r y : Fin 512) : (win0_16.blk t).view.emb (ix4 0 0 r y) = ix4 (pb t) (pi t) r y := by
  blk_ext [idx t]
  all_goals first | rfl | (simp only [pb, pi, pos]; omega)

/-- The place of a convolution output's block in the result. -/
theorem place_c (y f : Fin 512) : (win0_17.blk t).view.emb (ix3 0 y f) = ix3 (pb t) (pos t y) f := by
  blk_ext [idx t]
  all_goals first | rfl | (simp only [pb, pi, pos]; omega)

/-- The kernel's queries are those of the arguments. -/
theorem final_q : (dats m 0 c).arrAt 14 cfg0.N = REFq m c := by
  refine (dats m 0 c).arrAt_eq_of_covers 14 _ (by decide +kernel) fun t _ y => ?_
  blk_simp
  rw [after0_14]
  idx_vars y
  have h0 : y0 = 0 := Subsingleton.elim _ _
  subst h0
  refine (point_q m c t y1 y2).trans ?_
  refine Eq.trans ?_ (congrArg (REFq m c) (place_q t y1 y2)).symm
  rfl

/-- The kernel's keys are those of the arguments. -/
theorem final_k (hf : Finite m c) : (dats m 0 c).arrAt 15 cfg0.N = REFk m c := by
  refine (dats m 0 c).arrAt_eq_of_covers 15 _ (by decide +kernel) fun t _ y => ?_
  blk_simp
  rw [after0_15]
  idx_vars y
  have h0 : y0 = 0 := Subsingleton.elim _ _
  subst h0
  refine (point_k m c t hf y1 y2).trans ?_
  refine Eq.trans ?_ (congrArg (REFk m c) (place_k t y1 y2)).symm
  rfl

/-- The kernel's values are those of the arguments. -/
theorem final_v : (dats m 0 c).arrAt 16 cfg0.N = REFv m c := by
  refine (dats m 0 c).arrAt_eq_of_covers 16 _ (by decide +kernel) fun t _ y => ?_
  blk_simp
  rw [after0_16]
  idx_vars y
  have h0 : y0 = 0 := Subsingleton.elim _ _
  have h1 : y1 = 0 := Subsingleton.elim _ _
  subst h0 h1
  refine (point_v m c t y2 y3).trans ?_
  refine Eq.trans ?_ (congrArg (REFv m c) (place_v t y2 y3)).symm
  exact congrArg (fun s => vOut (DW m c) ((A m c).T (pb t) s) y2) (Fin.ext (congrArg (· + y3.val) (Nat.mul_comm _ _)))

/-- The kernel's convolution outputs are those of the arguments. -/
theorem final_c : (dats m 0 c).arrAt 17 cfg0.N = REFc m c := by
  refine (dats m 0 c).arrAt_eq_of_covers 17 _ (by decide +kernel) fun t _ y => ?_
  blk_simp
  rw [after0_17]
  idx_vars y
  have h0 : y0 = 0 := Subsingleton.elim _ _
  subst h0
  refine (point_c m c t y1 y2).trans ?_
  refine Eq.trans ?_ (congrArg (REFc m c) (place_c t y1 y2)).symm
  rfl

end Cert.InIdeal.Value
-- ==== Proof.InRefQ.lean ====
module
public import proofs.«01_k».proof.Proof.InRef
public import Idealize.ShloMosaic.Lib.Pointwise

/-! The reference's queries, entry by entry. -/

@[expose] public section
set_option maxRecDepth 16384
noncomputable section
namespace Cert.InRefIdeal.Value
open Idealize.ShloMosaic Idealize.ShloMosaic.TcCoe Idealize.SL.Sem Cert.InRefIdeal Cert.InRefIdeal.Gen
open Cert.InSpec

section
variable (V : Valuation τ sig (Elt Ideal)) (b : Fin 8) (s : Fin 4096)

/-- The reference's queries. -/
def QOUT : FVec Ideal S8x1024x4096 .bf16 :=
  truncf .bf16 (shapeCast _ (transpose S8x8x128x4096 [0, 2, 3, 1] (pad S8x4096x8x128 ![0, 0, 0, 0] ![0, 0, 0, 32] ![0, 0, 0, 0] (Host.divf (concatenate S8x4096x8x96 3 [⟨S8x4096x8x64, (extractStridedSlice S8x4096x8x64 ![0, 0, 0, 0] (res_main_v54 V) slices_S8x4096x8x96_S8x4096x8x64_0_0_0_0)⟩, ⟨S8x4096x8x32, (concatenate S8x4096x8x32 3 [⟨S8x4096x8x16, (subf (mulf (res_main_v78 V) (broadcastInDim S8x4096x8x16 ![0, 1, 2, 3] bcast_S8x4096x1x16_S8x4096x8x16_0_1_2_3 (res_main_v76 V))) (mulf (res_main_v79 V) (broadcastInDim S8x4096x8x16 ![0, 1, 2, 3] bcast_S8x4096x1x16_S8x4096x8x16_0_1_2_3 (res_main_v77 V))))⟩, ⟨S8x4096x8x16, (addf (mulf (res_main_v78 V) (broadcastInDim S8x4096x8x16 ![0, 1, 2, 3] bcast_S8x4096x1x16_S8x4096x8x16_0_1_2_3 (res_main_v77 V))) (mulf (res_main_v79 V) (broadcastInDim S8x4096x8x16 ![0, 1, 2, 3] bcast_S8x4096x1x16_S8x4096x8x16_0_1_2_3 (res_main_v76 V))))⟩] concatenates_S8x4096x8x16_S8x4096x8x16_S8x4096x8x32_d3)⟩] concatenates_S8x4096x8x64_S8x4096x8x32_S8x4096x8x96_d3) (broadcastInDim S8x4096x8x96 ![] bcast_S_S8x4096x8x96 (mulf (Host.sqrt (constant S_ .f32 0x42C00000#32)) (Host.log (constant S_ .f32 0x40000000#32))))) (sitofp .f32 (constantI S_ 32 0#32)) pads_S8x4096x8x96_S8x4096x8x128_000_000_000_0320 h_S_) transposes_S8x4096x8x128_S8x8x128x4096_0_2_3_1) shapeCasts_S8x8x128x4096_S8x1024x4096) bitsLt_bf16_f32

/-- The divisor of the queries is the square root of 96 times the logarithm of 2. -/
theorem div_scale (x : EReal) :
    Ideal.div x (Ideal.sqrt (Ideal.ofBits FTy.f32 1119879168#32) * Ideal.log (Ideal.ofBits FTy.f32 1073741824#32)) = x * scale := by
  have h96 : Ideal.ofBits FTy.f32 1119879168#32 = ((96 : ℝ) : EReal) := by
    simp [Ideal.ofBits, Ideal.ieee]
    rw [← EReal.coe_mul]
    norm_num
  have h2 : Ideal.ofBits .f32 1073741824#32 = ((2 : ℝ) : EReal) := by
    simp [Ideal.ofBits, Ideal.ieee]
    rw [← EReal.coe_mul]
    norm_num
  rw [h96, h2, Ideal.log_coe, if_neg (by norm_num), Ideal.sqrt_coe, if_neg (by norm_num), ← EReal.coe_mul, Ideal.div_coe]
  · unfold scale
    rw [one_div, mul_inv]
  · exact mul_ne_zero (by positivity) (ne_of_gt (Real.log_pos (by norm_num)))

/-- The reference's queries are those of each token. -/
theorem QOUT_apply (r : Fin 1024) : QOUT V (ix3 b r s) = qOut (args V).W ((args V).T b s) r := by
  unfold QOUT res_main_v78 res_main_v79 res_main_v76 res_main_v77 res_main_v56
  pointwise
  simp only [v54_apply, v16_apply, v17_apply, div_scale]
  have e : ∀ (q : Fin 768 → EReal) (c d : Fin 16 → EReal) (z : EReal), z = 0 →
      (if h : r.val / 128 < 8 ∧ r.val % 128 < 96 then
        (if h1 : r.val % 128 < 64 then q ⟨r.val / 128 * 96 + r.val % 128, by omega⟩
        else if h2 : r.val % 128 - 64 < 16 then
          q ⟨r.val / 128 * 96 + (64 + (r.val % 128 - 64)), by omega⟩ * c ⟨r.val % 128 - 64, h2⟩
            - q ⟨r.val / 128 * 96 + (64 + (16 + (r.val % 128 - 64))), by omega⟩ * d ⟨r.val % 128 - 64, h2⟩
        else
          q ⟨r.val / 128 * 96 + (64 + (r.val % 128 - 64 - 16)), by omega⟩ * d ⟨r.val % 128 - 64 - 16, by omega⟩
            + q ⟨r.val / 128 * 96 + (64 + (16 + (r.val % 128 - 64 - 16))), by omega⟩ * c ⟨r.val % 128 - 64 - 16, by omega⟩) * scale
      else z)
      = padded (fun x => join (fun d => q ⟨r.val / 128 * 96 + d.val, by omega⟩) (rotary (fun e => q ⟨r.val / 128 * 96 + (64 + e.val), by omega⟩) c d) x * scale)
          ⟨r.val % 128, by omega⟩ := by
    intro q c d z hz
    subst hz
    unfold padded join rotary
    have h8 : r.val / 128 < 8 := by omega
    by_cases h : r.val % 128 < 96
    · by_cases h1 : r.val % 128 < 64
      · simp only [h, h1, h8, and_self, dite_true]
      · by_cases h2 : r.val % 128 - 64 < 16 <;> simp only [h, h1, h2, h8, and_self, dite_true, dite_false]
    · simp only [h, and_false, dite_false]
  unfold qOut
  exact e (query (args V).W ((args V).T b s)) (cs ((args V).T b s)) (sn ((args V).T b s)) _ sitofp_zero

end
end Cert.InRefIdeal.Value
-- ==== Proof.InRefKV.lean ====
module
public import proofs.«01_k».proof.Proof.InRef
public import Idealize.ShloMosaic.Lib.Pointwise

/-! The reference's keys and values, entry by entry. -/

@[expose] public section
set_option maxRecDepth 16384
noncomputable section
namespace Cert.InRefIdeal.Value
open Idealize.ShloMosaic Idealize.ShloMosaic.TcCoe Idealize.SL.Sem Cert.InRefIdeal Cert.InRefIdeal.Gen
open Cert.InSpec

section
variable (V : Valuation τ sig (Elt Ideal)) (b : Fin 8) (s : Fin 4096)

/-- The reference's keys. -/
def KOUT : FVec Ideal S8x4096x1024 .bf16 :=
  truncf .bf16 (shapeCast _ (pad S8x4096x8x128 ![0, 0, 0, 0] ![0, 0, 0, 32] ![0, 0, 0, 0] (concatenate S8x4096x8x96 3 [⟨S8x4096x8x64, (extractStridedSlice S8x4096x8x64 ![0, 0, 0, 0] (res_main_v73 V) slices_S8x4096x8x128_S8x4096x8x64_0_0_0_0)⟩, ⟨S8x4096x8x32, (broadcastInDim S8x4096x8x32 ![0, 1, 2, 3] bcast_S8x4096x1x32_S8x4096x8x32_0_1_2_3 (broadcastInDim S8x4096x1x32 ![0, 1, 3] bcast_S8x4096x32_S8x4096x1x32_0_1_3 (concatenate S8x4096x32 2 [⟨S8x4096x16, (subf (mulf (res_main_v91 V) (res_main_v16 V)) (mulf (res_main_v92 V) (res_main_v17 V)))⟩, ⟨S8x4096x16, (addf (mulf (res_main_v91 V) (res_main_v17 V)) (mulf (res_main_v92 V) (res_main_v16 V)))⟩] concatenates_S8x4096x16_S8x4096x16_S8x4096x32_d2)))⟩] concatenates_S8x4096x8x64_S8x4096x8x32_S8x4096x8x96_d3) (sitofp .f32 (constantI S_ 32 0#32)) pads_S8x4096x8x96_S8x4096x8x128_000_000_000_0320 h_S_) shapeCasts_S8x4096x8x128_S8x4096x1024) bitsLt_bf16_f32

/-- The reference's keys are those of each token. -/
theorem KOUT_apply (r : Fin 1024) : KOUT V (ix3 b s r) = kOut (args V).W ((args V).T b s) r := by
  unfold KOUT res_main_v91 res_main_v92 res_main_v36
  pointwise
  simp only [v73_apply, v16_apply, v17_apply, v33_apply]
  have e : ∀ (q : Fin 1024 → EReal) (p : Fin 1696 → EReal) (c d : Fin 16 → EReal) (z : EReal), z = 0 →
      (if h : r.val / 128 < 8 ∧ r.val % 128 < 96 then
        if h1 : r.val % 128 < 64 then q ⟨r.val / 128 * 128 + r.val % 128, by omega⟩
        else if h2 : r.val % 128 - 64 < 16 then
          p ⟨640 + (r.val % 128 - 64), by omega⟩ * c ⟨r.val % 128 - 64, h2⟩ - p ⟨640 + (16 + (r.val % 128 - 64)), by omega⟩ * d ⟨r.val % 128 - 64, h2⟩
        else
          p ⟨640 + (r.val % 128 - 64 - 16), by omega⟩ * d ⟨r.val % 128 - 64 - 16, by omega⟩
            + p ⟨640 + (16 + (r.val % 128 - 64 - 16)), by omega⟩ * c ⟨r.val % 128 - 64 - 16, by omega⟩
      else z)
      = padded (join (fun d => q ⟨r.val / 128 * 128 + d.val, by omega⟩) (rotary (fun e => p ⟨640 + e.val, by omega⟩) c d)) ⟨r.val % 128, by omega⟩ := by
    intro q p c d z hz
    subst hz
    unfold padded join rotary
    have h8 : r.val / 128 < 8 := by omega
    by_cases h : r.val % 128 < 96
    · by_cases h1 : r.val % 128 < 64
      · simp only [h, h1, h8, and_self, dite_true]
      · by_cases h2 : r.val % 128 - 64 < 16 <;> simp only [h, h1, h2, h8, and_self, dite_true, dite_false]
    · simp only [h, and_false, dite_false]
  unfold kOut
  exact e (keyval (args V).W ((args V).T b s)) (proj (args V).W ((args V).T b s)) (cs ((args V).T b s)) (sn ((args V).T b s)) _ sitofp_zero

/-- The reference's values. -/
def VOUT : FVec Ideal S8x8x512x512 .bf16 :=
  truncf .bf16 (shapeCast _ (transpose S8x8x8x64x512 [0, 1, 3, 4, 2] (shapeCast _ (extractStridedSlice S8x4096x8x64 ![0, 0, 0, 64] (res_main_v73 V) slices_S8x4096x8x128_S8x4096x8x64_0_0_0_64) shapeCasts_S8x4096x8x64_S8x8x512x8x64) transposes_S8x8x512x8x64_S8x8x8x64x512_0_1_3_4_2) shapeCasts_S8x8x8x64x512_S8x8x512x512) bitsLt_bf16_f32

/-- The reference's values are those of each token. -/
theorem VOUT_apply (i : Fin 8) (r y : Fin 512) :
    VOUT V (ix4 b i r y) = vOut (args V).W ((args V).T b ⟨i.val * 512 + y.val, by omega⟩) r := by
  unfold VOUT
  pointwise
  rw [v73_apply]
  rfl

end
end Cert.InRefIdeal.Value
-- ==== Proof.InRefConv.lean ====
module
public import proofs.«01_k».proof.Proof.InRef
public import Idealize.ShloMosaic.Lib.Pointwise

/-! The reference's convolution mixer, entry by entry. -/

@[expose] public section
set_option maxRecDepth 16384
noncomputable section
namespace Cert.InRefIdeal.Value
open Idealize.ShloMosaic Idealize.ShloMosaic.TcCoe Idealize.SL.Sem Cert.InRefIdeal Cert.InRefIdeal.Gen
open Cert.InSpec

section
variable (V : Valuation τ sig (Elt Ideal)) (b : Fin 8) (s : Fin 4096)

/-- The convolution with its bias. -/
theorem v347_apply (f : Fin 512) :
    res_main_v347 V (ix3 b s f) = conv (args V).W (fun j => unitBefore (args V).W ((args V).T b) s (30 - j)) f := by
  unfold res_main_v347 res_main_v288 res_main_v211 res_main_v126
  pointwise
  have h0 := shifted V b s 0 (by omega) f (by omega)
  simp only [zero_add] at h0
  rw [h0]
  simp (discharger := omega) only [shifted]
  unfold conv
  simp only [Finset.sum_range_succ, Finset.sum_range_zero, zero_add]
  simp only [Args.W, Nat.reduceLT, dite_true]
  rfl

/-- The layer normalization. -/
theorem v371_apply (f : Fin 512) :
    res_main_v371 V (ix3 b s f) = layerNorm (conv (args V).W (fun j => unitBefore (args V).W ((args V).T b) s (30 - j))) (args V).W.lg (args V).W.lb f := by
  unfold res_main_v371 res_main_v355
  pointwise
  simp only [v347_apply]
  rfl

/-- The reference's convolution mixer. -/
def COUT : FVec Ideal S8x4096x512 .bf16 :=
  truncf .bf16 (mulf (res_main_v371 V) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (res_main_v371 V)))))) bitsLt_bf16_f32

/-- The reference's convolution mixer is that of each token. -/
theorem COUT_apply (f : Fin 512) : COUT V (ix3 b s f) = mixed (args V).W ((args V).T b) s f := by
  unfold COUT
  pointwise
  simp only [v371_apply]
  rfl

end
end Cert.InRefIdeal.Value
-- ==== Proof.InClaims.lean ====
module
public import proofs.«01_k».proof.Defs
public import proofs.«01_k».proof.Proof.Gen.In.Frame
public import proofs.«01_k».proof.Proof.InPoint
public import proofs.«01_k».proof.Proof.InRefQ
public import proofs.«01_k».proof.Proof.InRefKV
public import proofs.«01_k».proof.Proof.InRefConv

/-! The claims about the mixers' inputs. -/

@[expose] public section
noncomputable section
namespace Cert.Proof.InClaims
open Idealize.ShloMosaic Idealize.SL.Sem

/-- The kernel, over words, runs to its end, keeps its arguments and leaves every counter at zero. -/
theorem frame_p : Cert.quiescent_In := fun m ρ _ => Cert.In.Gen.frame m ρ

/-- The same of the kernel over the extended reals. -/
theorem frame_pi : Cert.quiescent_InIdeal := fun m ρ _ => Cert.InIdeal.Gen.frame m ρ

/-- The same where the rotary key's weights are finite. -/
theorem frame_pi_pre : Cert.quiescent_InIdeal_pre_finite_key_weights := fun m ρ _ => Cert.InIdeal.Gen.frame m ρ

/-- The same of the reference, which has no counters. -/
theorem frame_ri : Cert.quiescent_InRefIdeal := fun m ρ _ =>
  (θ_run Cert.InRefIdeal.defs _ _).mono (fun r h => ⟨fun c => (h c).2.2.2.2,
      Idealize.ShloMosaic.sem_eq_zero_of_no_sems (by decide) r.2⟩)
    (Cert.InRefIdeal.Value.run (F := Ideal) m ρ)

/-- The same of the reference where the rotary key's weights are finite. -/
theorem frame_ri_pre : Cert.quiescent_InRefIdeal_pre_finite_key_weights := fun m ρ _ => frame_ri m ρ trivial

/-- The one constant read differently is the rounded `1 / (√96 · log 2)`. -/
theorem preserves : Cert.preserves_In_InIdeal :=
  IdealRules.named_const.statement Cert.InIdeal.κ "scale" .f32 0x3E16C740#32 (((Real.sqrt 96)⁻¹ * (Real.log 2)⁻¹ : ℝ) : EReal) rfl

/-- What the precondition says of a device's arguments. -/
theorem finite_of_pre (m : (ℓ : Loc Cert.InIdeal.nD Cert.InIdeal.τ Cert.InIdeal.sig) → Buf (Elt Ideal) ℓ) (h : Cert.Pre_InIdeal_finite_key_weights m) (c : Dev Cert.InIdeal.nD) :
    Cert.InIdeal.Value.Finite m c :=
  Cert.InSpec.reals_of_pre _ _ _ _ _ _ _ _ _ _ _ _ (h c)

/-- The kernel's results are the reference's: the attention's queries, keys and values and the convolution mixer's output, for every token. -/
theorem algebraic : Cert.algebraic_InIdeal_InRefIdeal_pre_finite_key_weights := by
  intro m ρ m' ρ' hpre hagree
  refine ⟨_, _, _, _, Cert.InIdeal.Value.run_blocks (F := Ideal) m ρ, ?_⟩
  have hA : ∀ c, Cert.InRefIdeal.Value.args (StableHlo.launchContents m' c) = Cert.InIdeal.Value.A m c := by
    intro c
    unfold Cert.InRefIdeal.Value.args Cert.InIdeal.Value.A
    simp only [Cert.InRefIdeal.Value.Args.mk.injEq]
    exact hagree c
  refine (θ_run Cert.InRefIdeal.defs _ _).mono (fun _ h c => ⟨(h c).1.trans ?_, (h c).2.1.trans ?_, (h c).2.2.1.trans ?_, (h c).2.2.2.1.trans ?_, (h c).2.2.2.2⟩)
    (Cert.InRefIdeal.Value.run (F := Ideal) m' ρ')
  · rw [Cert.InIdeal.Value.final_q]
    change Cert.InRefIdeal.Value.QOUT (StableHlo.launchContents m' c) = _
    funext i
    obtain ⟨b, r, s, rfl⟩ : ∃ (b : Fin 8) (r : Fin 1024) (s : Fin 4096), i = ix3 b r s := ⟨i 0, i 1, i 2, eq_ix3 i⟩
    rw [Cert.InRefIdeal.Value.QOUT_apply, hA]
    rfl
  · rw [Cert.InIdeal.Value.final_k m c (finite_of_pre m hpre c)]
    change Cert.InRefIdeal.Value.KOUT (StableHlo.launchContents m' c) = _
    funext i
    obtain ⟨b, s, r, rfl⟩ : ∃ (b : Fin 8) (s : Fin 4096) (r : Fin 1024), i = ix3 b s r := ⟨i 0, i 1, i 2, eq_ix3 i⟩
    rw [Cert.InRefIdeal.Value.KOUT_apply, hA]
    rfl
  · rw [Cert.InIdeal.Value.final_v]
    change Cert.InRefIdeal.Value.VOUT (StableHlo.launchContents m' c) = _
    funext i
    obtain ⟨b, j, r, y, rfl⟩ : ∃ (b j : Fin 8) (r y : Fin 512), i = ix4 b j r y := ⟨i 0, i 1, i 2, i 3, eq_ix4 i⟩
    rw [Cert.InRefIdeal.Value.VOUT_apply, hA]
    rfl
  · rw [Cert.InIdeal.Value.final_c]
    change Cert.InRefIdeal.Value.COUT (StableHlo.launchContents m' c) = _
    funext i
    obtain ⟨b, s, f, rfl⟩ : ∃ (b : Fin 8) (s : Fin 4096) (f : Fin 512), i = ix3 b s f := ⟨i 0, i 1, i 2, eq_ix3 i⟩
    rw [Cert.InRefIdeal.Value.COUT_apply, hA]
    rfl

end Cert.Proof.InClaims
-- ==== Proof.lean ====
module

public import proofs.«01_k».proof.Defs
public import proofs.«01_k».proof.Proof.AttnClaims
public import proofs.«01_k».proof.Proof.OutClaims
public import proofs.«01_k».proof.Proof.InClaims
public import proofs.«01_k».proof.Proof.Gen.Attn
public import proofs.«01_k».proof.Proof.Gen.AttnIdeal
public import proofs.«01_k».proof.Proof.Gen.AttnRefIdeal
public import proofs.«01_k».proof.Proof.Gen.Out
public import proofs.«01_k».proof.Proof.Gen.OutIdeal
public import proofs.«01_k».proof.Proof.Gen.OutRefIdeal
public import proofs.«01_k».proof.Proof.Gen.In
public import proofs.«01_k».proof.Proof.Gen.InIdeal
public import proofs.«01_k».proof.Proof.Gen.InRefIdeal
public import proofs.«01_k».proof.Proof.Gen.Pre_finite_scores
public import proofs.«01_k».proof.Proof.Gen.Pre_finite_key_weights
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Attn.Gen.facts, Cert.AttnIdeal.Gen.facts, Cert.AttnRefIdeal.Gen.facts, Cert.Out.Gen.facts, Cert.OutIdeal.Gen.facts,
  Cert.OutRefIdeal.Gen.facts, Cert.In.Gen.facts, Cert.InIdeal.Gen.facts, Cert.InRefIdeal.Gen.facts, Cert.Pre_finite_scores.Gen.facts,
  Cert.Pre_finite_key_weights.Gen.facts,
  AttnClaims.frame_p, AttnClaims.frame_pi, AttnClaims.frame_pi_pre, AttnClaims.frame_ri, AttnClaims.frame_ri_pre,
  OutClaims.frame_p, OutClaims.frame_pi, OutClaims.frame_ri,
  InClaims.frame_p, InClaims.frame_pi, InClaims.frame_pi_pre, InClaims.frame_ri, InClaims.frame_ri_pre,
  trivial, AttnClaims.algebraic, trivial, OutClaims.algebraic, InClaims.preserves, InClaims.algebraic⟩

end Cert.Proof

end
